-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8x2048x2048 : Shape := ⟨3, ![8, 2048, 2048]⟩
abbrev S8x2048x256 : Shape := ⟨3, ![8, 2048, 256]⟩
abbrev S8x256 : Shape := ⟨2, ![8, 256]⟩
abbrev S256x256 : Shape := ⟨2, ![256, 256]⟩
abbrev S1x3 : Shape := ⟨2, ![1, 3]⟩
abbrev S256x256x2 : Shape := ⟨3, ![256, 256, 2]⟩
abbrev S256 : Shape := ⟨1, ![256]⟩
abbrev S_ : Shape := ⟨0, ![]⟩
abbrev S8x2048 : Shape := ⟨2, ![8, 2048]⟩

class Facts : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S_S8x2048x256 : S_.BroadcastsInDim S8x2048x256 (![] : Fin 0 → Fin S8x2048x256.rank)
  bcast_S_S256x256 : S_.BroadcastsInDim S256x256 (![] : Fin 0 → Fin S256x256.rank)
  bcast_S_S1x3 : S_.BroadcastsInDim S1x3 (![] : Fin 0 → Fin S1x3.rank)
  bcast_S_S256 : S_.BroadcastsInDim S256 (![] : Fin 0 → Fin S256.rank)

variable [Facts]

def fn_part1 {F : FTy → Type} [FloatOps F] (main_v2 : IVec S8x2048x2048 1) (main_v5 : IVec S8x2048 1) (main_v8 : IVec S8x2048x256 1) (main_v11 : IVec S256x256 1) (main_v14 : IVec S1x3 1) (main_v15 : FVec F S256 .f32) (main_v16 : FVec F S256 .f32) : IVec S8x2048x2048 1 × IVec S8x2048 1 × IVec S8x2048x256 1 × IVec S256x256 1 × IVec S1x3 1 × IVec S256 1 :=
  let main_v17 : IVec S256 1 := cmpf .olt main_v15 main_v16
  (main_v2, main_v5, main_v8, main_v11, main_v14, main_v17)

def fn {F : FTy → Type} [FloatOps F] (main_arg0 : FVec F S8x2048x2048 .f32) (main_arg1 : FVec F S8x2048x256 .f32) (main_arg2 : FVec F S8x256 .f32) (main_arg3 : FVec F S256x256 .f32) (main_arg4 : FVec F S1x3 .f32) (main_arg5 : FVec F S256x256x2 .f32) (main_arg6 : FVec F S256 .f32) (main_arg7 : FVec F S256 .f32) (main_arg8 : FVec F S256x256 .f32) : IVec S8x2048x2048 1 × IVec S8x2048 1 × IVec S8x2048x256 1 × IVec S256x256 1 × IVec S1x3 1 × IVec S256 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_cst_0 : FVec F S_ .f32 := constant S_ .f32 0x00000000#32
  let main_v3 : FVec F S8x2048 .f32 := (fun x v => Host.reduceAdd x v reducesTo_S8x2048x2048_S8x2048_d2 h_S_) main_arg0 main_cst_0
  let main_cst_1 : FVec F S_ .f32 := constant S_ .f32 0x00000000#32
  let main_v4 : FVec F S8x2048 .f32 := broadcastInDim S8x2048 ![] bcast_S_S8x2048 main_cst_1
  let main_v5 : IVec S8x2048 1 := cmpf .une main_v3 main_v4
  let main_v6 : FVec F S8x2048x256 .f32 := Host.absf main_arg1
  let main_cst_2 : FVec F S_ .f32 := constant S_ .f32 0x7F800000#32
  let main_v7 : FVec F S8x2048x256 .f32 := broadcastInDim S8x2048x256 ![] bcast_S_S8x2048x256 main_cst_2
  let main_v8 : IVec S8x2048x256 1 := cmpf .olt main_v6 main_v7
  let main_v9 : FVec F S256x256 .f32 := Host.absf main_arg3
  let main_cst_3 : FVec F S_ .f32 := constant S_ .f32 0x7F800000#32
  let main_v10 : FVec F S256x256 .f32 := broadcastInDim S256x256 ![] bcast_S_S256x256 main_cst_3
  let main_v11 : IVec S256x256 1 := cmpf .olt main_v9 main_v10
  let main_v12 : FVec F S1x3 .f32 := Host.absf main_arg4
  let main_cst_4 : FVec F S_ .f32 := constant S_ .f32 0x7F800000#32
  let main_v13 : FVec F S1x3 .f32 := broadcastInDim S1x3 ![] bcast_S_S1x3 main_cst_4
  let main_v14 : IVec S1x3 1 := cmpf .olt main_v12 main_v13
  let main_v15 : FVec F S256 .f32 := Host.absf main_arg7
  let main_cst_5 : FVec F S_ .f32 := constant S_ .f32 0x7F800000#32
  let main_v16 : FVec F S256 .f32 := broadcastInDim S256 ![] bcast_S_S256 main_cst_5
  fn_part1 (F := F) main_v2 main_v5 main_v8 main_v11 main_v14 main_v15 main_v16
-- ==== Kernel.lean ====
abbrev S8x2048x2048 : Shape := ⟨3, ![8, 2048, 2048]⟩
abbrev S8x2048x256 : Shape := ⟨3, ![8, 2048, 256]⟩
abbrev S8x256 : Shape := ⟨2, ![8, 256]⟩
abbrev S256x256 : Shape := ⟨2, ![256, 256]⟩
abbrev S1x3 : Shape := ⟨2, ![1, 3]⟩
abbrev S256x256x2 : Shape := ⟨3, ![256, 256, 2]⟩
abbrev S256 : Shape := ⟨1, ![256]⟩
abbrev S256x256x1 : Shape := ⟨3, ![256, 256, 1]⟩
abbrev S1x256 : Shape := ⟨2, ![1, 256]⟩
abbrev S256x1 : Shape := ⟨2, ![256, 1]⟩
abbrev S2x8 : Shape := ⟨2, ![2, 8]⟩
abbrev S1x512x2048 : Shape := ⟨3, ![1, 512, 2048]⟩
abbrev S1x2048x256 : Shape := ⟨3, ![1, 2048, 256]⟩
abbrev S2048x256 : Shape := ⟨2, ![2048, 256]⟩
abbrev S8x16x128 : Shape := ⟨3, ![8, 16, 128]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x128 : Shape := ⟨2, ![1, 128]⟩
abbrev S2048x1 : Shape := ⟨2, ![2048, 1]⟩
abbrev S16x128 : Shape := ⟨2, ![16, 128]⟩
abbrev S1x16x128 : Shape := ⟨3, ![1, 16, 128]⟩
abbrev S8x1x128 : Shape := ⟨3, ![8, 1, 128]⟩
abbrev S64x2048 : Shape := ⟨2, ![64, 2048]⟩
abbrev S8x16 : Shape := ⟨2, ![8, 16]⟩
abbrev S8x16x1 : Shape := ⟨3, ![8, 16, 1]⟩
abbrev S8x1 : Shape := ⟨2, ![8, 1]⟩
abbrev S8x1x1 : Shape := ⟨3, ![8, 1, 1]⟩
abbrev S1x1 : Shape := ⟨2, ![1, 1]⟩
abbrev S1x1x128 : Shape := ⟨3, ![1, 1, 128]⟩
abbrev S128x1 : Shape := ⟨2, ![128, 1]⟩
abbrev S64x1 : Shape := ⟨2, ![64, 1]⟩
abbrev S64x256 : Shape := ⟨2, ![64, 256]⟩
abbrev S63x256 : Shape := ⟨2, ![63, 256]⟩
abbrev S8 : Shape := ⟨1, ![8]⟩
abbrev S1x8 : Shape := ⟨2, ![1, 8]⟩
abbrev S16 : Shape := ⟨1, ![16]⟩

abbrev nBuf : Space → Nat
  | .hbm => 25
  | .vmem => 19
  | .smem => 0
  | _ => 0

abbrev bufTy : (tb : Table) → Fin (tcTables nBuf tb) → BufTy
  | .hbm, ⟨0, _⟩ => ⟨S8x2048x2048, .f32⟩
  | .hbm, ⟨1, _⟩ => ⟨S8x2048x256, .f32⟩
  | .hbm, ⟨2, _⟩ => ⟨S8x256, .f32⟩
  | .hbm, ⟨3, _⟩ => ⟨S256x256, .f32⟩
  | .hbm, ⟨4, _⟩ => ⟨S1x3, .f32⟩
  | .hbm, ⟨5, _⟩ => ⟨S256x256x2, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S256x256, .f32⟩
  | .hbm, ⟨12, _⟩ => ⟨S256x256x1, .f32⟩
  | .hbm, ⟨13, _⟩ => ⟨S256x256, .f32⟩
  | .hbm, ⟨14, _⟩ => ⟨S256x256, .f32⟩
  | .hbm, ⟨15, _⟩ => ⟨S1x256, .f32⟩
  | .hbm, ⟨16, _⟩ => ⟨S256x1, .f32⟩
  | .hbm, ⟨17, _⟩ => ⟨S8x256, .f32⟩
  | .hbm, ⟨18, _⟩ => ⟨S2x8, .f32⟩
  | .hbm, ⟨19, _⟩ => ⟨S1x8, .f32⟩
  | .hbm, ⟨20, _⟩ => ⟨S8, .f32⟩
  | .hbm, ⟨21, _⟩ => ⟨S1x8, .f32⟩
  | .hbm, ⟨22, _⟩ => ⟨S8, .f32⟩
  | .hbm, ⟨23, _⟩ => ⟨S8, .f32⟩
  | .hbm, ⟨24, _⟩ => ⟨S16, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S8x256, .f32⟩
  | .local _ .vmem, ⟨5, _⟩ => ⟨S8x256, .f32⟩
  | .local _ .vmem, ⟨6, _⟩ => ⟨S256x256, .f32⟩
  | .local _ .vmem, ⟨7, _⟩ => ⟨S1x3, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S256x1, .f32⟩
  | .local _ .vmem, ⟨12, _⟩ => ⟨S256x256, .f32⟩
  | .local _ .vmem, ⟨13, _⟩ => ⟨S2x8, .f32⟩
  | .local _ .vmem, ⟨14, _⟩ => ⟨S2048x256, .bf16⟩
  | .local _ .vmem, ⟨15, _⟩ => ⟨S8x2048x256, .f32⟩
  | .local _ .vmem, ⟨16, _⟩ => ⟨S8x16x128, .f32⟩
  | .local _ .vmem, ⟨17, _⟩ => ⟨S8x128, .f32⟩
  | .local _ .vmem, ⟨18, _⟩ => ⟨S8x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg0 : BitVec 32 := BitVec.ofNat 32 (i 0).val
  let v27 : Index := Scalar.indexCast arg0
  let arg1 : BitVec 32 := BitVec.ofNat 32 (i 1).val
  let c512_i32 : BitVec 32 := 512#32
  let v26 : BitVec 32 := Scalar.muli arg1 c512_i32
  let v28 : Index := Scalar.indexCast v26
  let c0_10 : Index := 0#32
  ![v27.toNat, v28.toNat, 0]
def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_11 : BitVec 32 := 0#32
  let v34 : BitVec 1 := Scalar.cmpi .ne v33 c0_i32_11
  v34

def k0_off2 (i : grid0.Coords) : Fin 3 → Nat :=
  let arg0 : BitVec 32 := BitVec.ofNat 32 (i 0).val
  let v40 : Index := Scalar.indexCast arg0
  let c0_14 : Index := 0#32
  let c0_15 : Index := 0#32
  ![v40.toNat, 0, 0]
def k0_off3 (i : grid0.Coords) : Fin 2 → Nat :=
  let arg0 : BitVec 32 := BitVec.ofNat 32 (i 0).val
  let v59 : Index := Scalar.indexCast arg0
  let c0_21 : Index := 0#32
  ![v59.toNat, 0]
def k0_off4 (i : grid0.Coords) : Fin 3 → Nat :=
  let arg0 : BitVec 32 := BitVec.ofNat 32 (i 0).val
  let v78 : Index := Scalar.indexCast arg0
  let c0_26 : Index := 0#32
  let c0_27 : Index := 0#32
  ![v78.toNat, 0, 0]
def k0_cond3 (i : grid0.Coords) : BitVec 1 :=
  let arg0 : BitVec 32 := BitVec.ofNat 32 (i 0).val
  let c7_i32 : BitVec 32 := 7#32
  let v35 : BitVec 1 := Scalar.cmpi .eq arg0 c7_i32
  let arg1 : BitVec 32 := BitVec.ofNat 32 (i 1).val
  let c3_i32_12 : BitVec 32 := 3#32
  let v36 : BitVec 1 := Scalar.cmpi .eq arg1 c3_i32_12
  let v37 : BitVec 1 := Scalar.andi v35 v36
  let v38 : BitVec 32 := Scalar.extui v37
  let c0_i32_13 : BitVec 32 := 0#32
  let v39 : BitVec 1 := Scalar.cmpi .ne v38 c0_i32_13
  v39

@[reducible] def k0_t1_loop : Scf.Loop 32 :=
  let c0_i32_18 : BitVec 32 := 0#32
  let c64_i32 : BitVec 32 := 64#32
  let v49 : BitVec 32 := Scalar.addi c0_i32_18 c64_i32
  let c1_i32 : BitVec 32 := 1#32
  ⟨c0_i32_18, v49, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S8x2048x2048 : Shape := ⟨3, ![8, 2048, 2048]⟩
abbrev S8x2048x256 : Shape := ⟨3, ![8, 2048, 256]⟩
abbrev S8x256 : Shape := ⟨2, ![8, 256]⟩
abbrev S256x256 : Shape := ⟨2, ![256, 256]⟩
abbrev S1x3 : Shape := ⟨2, ![1, 3]⟩
abbrev S256x256x2 : Shape := ⟨3, ![256, 256, 2]⟩
abbrev S256 : Shape := ⟨1, ![256]⟩
abbrev S_ : Shape := ⟨0, ![]⟩
abbrev S1 : Shape := ⟨1, ![1]⟩
abbrev S1x1 : Shape := ⟨2, ![1, 1]⟩
abbrev S8x2048 : Shape := ⟨2, ![8, 2048]⟩
abbrev S8x2048x1 : Shape := ⟨3, ![8, 2048, 1]⟩
abbrev S2048x256 : Shape := ⟨2, ![2048, 256]⟩
abbrev S8 : Shape := ⟨1, ![8]⟩
abbrev S8x1x1 : Shape := ⟨3, ![8, 1, 1]⟩
abbrev S8x64 : Shape := ⟨2, ![8, 64]⟩
abbrev S8x64x1 : Shape := ⟨3, ![8, 64, 1]⟩
abbrev S8x64x256 : Shape := ⟨3, ![8, 64, 256]⟩
abbrev S8x256x64 : Shape := ⟨3, ![8, 256, 64]⟩
abbrev S256x256x1 : Shape := ⟨3, ![256, 256, 1]⟩
abbrev S8x256x63 : Shape := ⟨3, ![8, 256, 63]⟩
abbrev S256x8x63 : Shape := ⟨3, ![256, 8, 63]⟩
abbrev S256x1 : Shape := ⟨2, ![256, 1]⟩
abbrev S1x256x1 : Shape := ⟨3, ![1, 256, 1]⟩
abbrev S1x256 : Shape := ⟨2, ![1, 256]⟩
abbrev S8x1 : Shape := ⟨2, ![8, 1]⟩
abbrev S16 : Shape := ⟨1, ![16]⟩

abbrev nBuf : Space → Nat
  | .hbm => 199
  | .vmem => 0
  | .smem => 0
  | _ => 0

abbrev hbmTy0_0 (i : Nat) : BufTy := match i % 128 with
  | 0 => ⟨S8x2048x2048, .f32⟩
  | 1 => ⟨S8x2048x256, .f32⟩
  | 2 => ⟨S8x256, .f32⟩
  | 3 => ⟨S256x256, .f32⟩
  | 4 => ⟨S1x3, .f32⟩
  | 5 => ⟨S256x256x2, .f32⟩
  | 6 => ⟨S256, .f32⟩
  | 7 => ⟨S256, .f32⟩
  | 8 => ⟨S256x256, .f32⟩
  | 9 => ⟨S_, .f32⟩
  | 10 => ⟨S1, .f32⟩
  | 11 => ⟨S_, .f32⟩
  | 12 => ⟨S1, .f32⟩
  | 13 => ⟨S1, .f32⟩
  | 14 => ⟨S1x1, .f32⟩
  | 15 => ⟨S1x3, .f32⟩
  | 16 => ⟨S1x3, .f32⟩
  | 17 => ⟨S1x3, .f32⟩
  | 18 => ⟨S_, .f32⟩
  | 19 => ⟨S1, .f32⟩
  | 20 => ⟨S1x1, .f32⟩
  | 21 => ⟨S1x3, .f32⟩
  | 22 => ⟨S1x3, .f32⟩
  | 23 => ⟨S_, .f32⟩
  | 24 => ⟨S8x2048, .f32⟩
  | 25 => ⟨S8x2048x1, .f32⟩
  | 26 => ⟨S8x2048x2048, .f32⟩
  | 27 => ⟨S8x2048x2048, .f32⟩
  | 28 => ⟨S8x2048x256, .f32⟩
  | 29 => ⟨S8x2048x256, .f32⟩
  | 30 => ⟨S_, .f32⟩
  | 31 => ⟨S8x2048x256, .f32⟩
  | 32 => ⟨S8x2048x256, .i1⟩
  | 33 => ⟨S_, .f32⟩
  | 34 => ⟨S8x2048x256, .f32⟩
  | 35 => ⟨S8x2048x256, .i1⟩
  | 36 => ⟨S_, .f32⟩
  | 37 => ⟨S_, .f32⟩
  | 38 => ⟨S2048x256, .f32⟩
  | 39 => ⟨S8x2048x256, .f32⟩
  | 40 => ⟨S8x2048x256, .f32⟩
  | 41 => ⟨S8x2048x256, .f32⟩
  | 42 => ⟨S_, .f32⟩
  | 43 => ⟨S8x2048x256, .f32⟩
  | 44 => ⟨S8x2048x256, .f32⟩
  | 45 => ⟨S8x2048x256, .f32⟩
  | 46 => ⟨S_, .f32⟩
  | 47 => ⟨S8, .f32⟩
  | 48 => ⟨S_, .f32⟩
  | 49 => ⟨S8, .f32⟩
  | 50 => ⟨S8, .f32⟩
  | 51 => ⟨S_, .i32⟩
  | 52 => ⟨S_, .f32⟩
  | 53 => ⟨S8, .f32⟩
  | 54 => ⟨S8x1x1, .f32⟩
  | 55 => ⟨S_, .f32⟩
  | 56 => ⟨S8x1x1, .f32⟩
  | 57 => ⟨S8x1x1, .f32⟩
  | 58 => ⟨S8x2048x256, .f32⟩
  | 59 => ⟨S8x2048x256, .f32⟩
  | 60 => ⟨S8x2048x256, .f32⟩
  | 61 => ⟨S_, .f32⟩
  | 62 => ⟨S_, .f32⟩
  | 63 => ⟨S_, .f32⟩
  | 64 => ⟨S_, .f32⟩
  | 65 => ⟨S8, .f32⟩
  | 66 => ⟨S8, .f32⟩
  | 67 => ⟨S8, .f32⟩
  | 68 => ⟨S_, .f32⟩
  | 69 => ⟨S_, .i1⟩
  | 70 => ⟨S_, .f32⟩
  | 71 => ⟨S_, .f32⟩
  | 72 => ⟨S8, .f32⟩
  | 73 => ⟨S8, .f32⟩
  | 74 => ⟨S8x1x1, .f32⟩
  | 75 => ⟨S8x2048x256, .f32⟩
  | 76 => ⟨S8x2048x256, .f32⟩
  | 77 => ⟨S_, .f32⟩
  | 78 => ⟨S8, .f32⟩
  | 79 => ⟨S8, .f32⟩
  | 80 => ⟨S8, .f32⟩
  | 81 => ⟨S8x1x1, .f32⟩
  | 82 => ⟨S8x2048x256, .f32⟩
  | 83 => ⟨S8x2048x256, .f32⟩
  | 84 => ⟨S8x2048, .f32⟩
  | 85 => ⟨S8x64, .f32⟩
  | 86 => ⟨S8x64, .i32⟩
  | 87 => ⟨S_, .i32⟩
  | 88 => ⟨S8x64, .i32⟩
  | 89 => ⟨S8x64, .i1⟩
  | 90 => ⟨S_, .i32⟩
  | 91 => ⟨S8x64, .i32⟩
  | 92 => ⟨S8x64, .i32⟩
  | 93 => ⟨S8x64, .i32⟩
  | 94 => ⟨S8x64x1, .i32⟩
  | 95 => ⟨S8x64x256, .f32⟩
  | 96 => ⟨S_, .f32⟩
  | 97 => ⟨S8x64x256, .f32⟩
  | 98 => ⟨S8x64x256, .f32⟩
  | 99 => ⟨S8x64x256, .f32⟩
  | 100 => ⟨S_, .f32⟩
  | 101 => ⟨S256, .f32⟩
  | 102 => ⟨S1x1, .f32⟩
  | 103 => ⟨S_, .f32⟩
  | 104 => ⟨S8x256x64, .f32⟩
  | 105 => ⟨S256x256x1, .f32⟩
  | 106 => ⟨S256x256, .f32⟩
  | 107 => ⟨S256x256x1, .f32⟩
  | 108 => ⟨S256x256, .f32⟩
  | 109 => ⟨S8x256x63, .f32⟩
  | 110 => ⟨S256x8x63, .f32⟩
  | 111 => ⟨S8x256x63, .f32⟩
  | 112 => ⟨S256x8x63, .f32⟩
  | 113 => ⟨S256x8x63, .f32⟩
  | 114 => ⟨S256x1, .f32⟩
  | 115 => ⟨S8x256x63, .f32⟩
  | 116 => ⟨S1x256x1, .f32⟩
  | 117 => ⟨S8x256x63, .f32⟩
  | 118 => ⟨S8x256x63, .f32⟩
  | 119 => ⟨S_, .f32⟩
  | 120 => ⟨S8x256x63, .f32⟩
  | 121 => ⟨S8x256x63, .f32⟩
  | 122 => ⟨S_, .f32⟩
  | 123 => ⟨S8x256, .f32⟩
  | 124 => ⟨S8x256, .f32⟩
  | 125 => ⟨S8x256, .f32⟩
  | 126 => ⟨S1x256, .f32⟩
  | 127 => ⟨S8x256, .f32⟩
  | _ => ⟨S8x2048x2048, .f32⟩

abbrev hbmTy0_1 (i : Nat) : BufTy := match i % 128 with
  | 0 => ⟨S8x256, .f32⟩
  | 1 => ⟨S1x1, .f32⟩
  | 2 => ⟨S_, .f32⟩
  | 3 => ⟨S8x256x64, .f32⟩
  | 4 => ⟨S256x256x1, .f32⟩
  | 5 => ⟨S256x256, .f32⟩
  | 6 => ⟨S256x256x1, .f32⟩
  | 7 => ⟨S256x256, .f32⟩
  | 8 => ⟨S8x256x63, .f32⟩
  | 9 => ⟨S256x8x63, .f32⟩
  | 10 => ⟨S8x256x63, .f32⟩
  | 11 => ⟨S256x8x63, .f32⟩
  | 12 => ⟨S256x8x63, .f32⟩
  | 13 => ⟨S256x1, .f32⟩
  | 14 => ⟨S8x256x63, .f32⟩
  | 15 => ⟨S1x256x1, .f32⟩
  | 16 => ⟨S8x256x63, .f32⟩
  | 17 => ⟨S8x256x63, .f32⟩
  | 18 => ⟨S_, .f32⟩
  | 19 => ⟨S8x256x63, .f32⟩
  | 20 => ⟨S8x256x63, .f32⟩
  | 21 => ⟨S_, .f32⟩
  | 22 => ⟨S8x256, .f32⟩
  | 23 => ⟨S8x256, .f32⟩
  | 24 => ⟨S8x256, .f32⟩
  | 25 => ⟨S8x256, .f32⟩
  | 26 => ⟨S1x1, .f32⟩
  | 27 => ⟨S_, .f32⟩
  | 28 => ⟨S8x256x64, .f32⟩
  | 29 => ⟨S256x256x1, .f32⟩
  | 30 => ⟨S256x256, .f32⟩
  | 31 => ⟨S256x256x1, .f32⟩
  | 32 => ⟨S256x256, .f32⟩
  | 33 => ⟨S8x256x63, .f32⟩
  | 34 => ⟨S256x8x63, .f32⟩
  | 35 => ⟨S8x256x63, .f32⟩
  | 36 => ⟨S256x8x63, .f32⟩
  | 37 => ⟨S256x8x63, .f32⟩
  | 38 => ⟨S256x1, .f32⟩
  | 39 => ⟨S8x256x63, .f32⟩
  | 40 => ⟨S1x256x1, .f32⟩
  | 41 => ⟨S8x256x63, .f32⟩
  | 42 => ⟨S8x256x63, .f32⟩
  | 43 => ⟨S_, .f32⟩
  | 44 => ⟨S8x256x63, .f32⟩
  | 45 => ⟨S8x256x63, .f32⟩
  | 46 => ⟨S_, .f32⟩
  | 47 => ⟨S8x256, .f32⟩
  | 48 => ⟨S8x256, .f32⟩
  | 49 => ⟨S8x256, .f32⟩
  | 50 => ⟨S8x256, .f32⟩
  | 51 => ⟨S8, .i32⟩
  | 52 => ⟨S8, .i32⟩
  | 53 => ⟨S_, .i32⟩
  | 54 => ⟨S8, .i32⟩
  | 55 => ⟨S8, .i1⟩
  | 56 => ⟨S_, .i32⟩
  | 57 => ⟨S8, .i32⟩
  | 58 => ⟨S8, .i32⟩
  | 59 => ⟨S8, .i32⟩
  | 60 => ⟨S8x1, .i32⟩
  | 61 => ⟨S8x256, .f32⟩
  | 62 => ⟨S8x256, .f32⟩
  | 63 => ⟨S8x256, .f32⟩
  | 64 => ⟨S_, .f32⟩
  | 65 => ⟨S8, .f32⟩
  | 66 => ⟨S8x256, .f32⟩
  | 67 => ⟨S8x256, .f32⟩
  | 68 => ⟨S_, .f32⟩
  | 69 => ⟨S8, .f32⟩
  | 70 => ⟨S16, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_cst_1 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_v4 : Ref sig .tc := ⟨.hbm, 40, rfl⟩
abbrev main_call0_v5 : Ref sig .tc := ⟨.hbm, 41, rfl⟩
abbrev main_call0_cst_2 : Ref sig .tc := ⟨.hbm, 42, rfl⟩
abbrev main_call0_v6 : Ref sig .tc := ⟨.hbm, 43, rfl⟩
abbrev main_call0_v7 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_c : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_cst_3 : Ref sig .tc := ⟨.hbm, 68, rfl⟩
abbrev main_call1_v12 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_5 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_values : Ref sig .tc := ⟨.hbm, 85, rfl⟩
abbrev main_indices : Ref sig .tc := ⟨.hbm, 86, rfl⟩
abbrev main_c_6 : Ref sig .tc := ⟨.hbm, 87, rfl⟩
abbrev main_v32 : Ref sig .tc := ⟨.hbm, 88, rfl⟩
abbrev main_v33 : Ref sig .tc := ⟨.hbm, 89, rfl⟩
abbrev main_c_7 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call2_cst : Ref sig .tc := ⟨.hbm, 96, rfl⟩
abbrev main_call2_v0 : Ref sig .tc := ⟨.hbm, 97, rfl⟩
abbrev main_v39 : Ref sig .tc := ⟨.hbm, 98, rfl⟩
abbrev main_v40 : Ref sig .tc := ⟨.hbm, 99, rfl⟩
abbrev main_cst_8 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_call3_cst : Ref sig .tc := ⟨.hbm, 119, rfl⟩
abbrev main_call3_v0 : Ref sig .tc := ⟨.hbm, 120, rfl⟩
abbrev main_v59 : Ref sig .tc := ⟨.hbm, 121, rfl⟩
abbrev main_cst_9 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_call4_cst : Ref sig .tc := ⟨.hbm, 146, rfl⟩
abbrev main_call4_v0 : Ref sig .tc := ⟨.hbm, 147, rfl⟩
abbrev main_v83 : Ref sig .tc := ⟨.hbm, 148, rfl⟩
abbrev main_cst_10 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_call5_cst : Ref sig .tc := ⟨.hbm, 171, rfl⟩
abbrev main_call5_v0 : Ref sig .tc := ⟨.hbm, 172, rfl⟩
abbrev main_v105 : Ref sig .tc := ⟨.hbm, 173, rfl⟩
abbrev main_cst_11 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_c_12 : Ref sig .tc := ⟨.hbm, 181, rfl⟩
abbrev main_v112 : Ref sig .tc := ⟨.hbm, 182, rfl⟩
abbrev main_v113 : Ref sig .tc := ⟨.hbm, 183, rfl⟩
abbrev main_c_13 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_14 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_15 : Ref sig .tc := ⟨.hbm, 196, rfl⟩
abbrev main_v124 : Ref sig .tc := ⟨.hbm, 197, rfl⟩
abbrev main_v125 : Ref sig .tc := ⟨.hbm, 198, rfl⟩

abbrev nD : Nat := 1
abbrev τ : Topo := Topo.v7x

variable {F : FTy → Type} [FloatOps F]
-- ==== Proof.KI.Setup.lean ====
/- Where the grid points of the launch lie: the closed forms of the body's three conditions, and where the output window is idle. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the tile coordinate is zero. -/
def k0_cond1 (i : grid0.Coords) : BitVec 1 :=
  Scalar.cmpi .ne (Scalar.extui (Scalar.cmpi .eq (BitVec.ofNat 32 (i 1).val) 0#32) : BitVec 32) 0#32

/-- The first tile of a graph: the body recomputes the projected features. -/
theorem cond1_iff (t : Fin cfg0.N) : k0_cond1 (grid0.coords t) = 1#1 ↔ t.val % 4 = 0 := by
  have ht : t.val < 32 := lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond1, e0, e1]
  word_cmp

/-- The last tile of a graph: the body takes the graph's moments and scores. -/
theorem cond2_iff (t : Fin cfg0.N) : k0_cond2 (grid0.coords t) = 1#1 ↔ t.val % 4 = 3 := by
  have ht : t.val < 32 := lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond2, e0, e1]
  word_cmp

/-- The last point of the grid: the body finishes every graph. -/
theorem cond3_iff (t : Fin cfg0.N) : k0_cond3 (grid0.coords t) = 1#1 ↔ t.val % 32 = 31 := by
  have ht : t.val < 32 := lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond3, e0, e1]
  word_cmp

/-- The output window is idle at every point but the last. -/
theorem idle_out : ∀ t : Fin cfg0.N, ¬ k0_cond3 (grid0.coords t) = 1#1 → cfg0.idle 11 (grid0.coords t) = true := by decide +kernel
/-- The output block is written back at no point but the last. -/
theorem noFlush_out : ∀ t : Fin cfg0.N, ¬ k0_cond3 (grid0.coords t) = 1#1 → (cfg0.win 11).flush t = false := by decide +kernel
/-- At the last point the output window is live. -/
theorem live_out : ∀ t : Fin cfg0.N, k0_cond3 (grid0.coords t) = 1#1 → cfg0.idle 11 (grid0.coords t) = false := by decide +kernel

/-- Window 0's staging memref at a point. -/
abbrev ms0 (t : Fin cfg0.N) : Memref sig .tc .vmem S1x512x2048 .f32 := win0_0.stage (cfg0.slots t 0)
/-- The first window's buffer is held whole. -/
abbrev hs0 (t : Fin cfg0.N) : (ms0 t).IsWhole := hstage0_0 ((cfg0.slots t 0).cast nbuf0_0)
/-- Window 1's staging memref at a point. -/
abbrev ms1 (t : Fin cfg0.N) : Memref sig .tc .vmem S1x2048x256 .f32 := win0_1.stage (cfg0.slots t 1)
/-- The second window's buffer is held whole. -/
abbrev hs1 (t : Fin cfg0.N) : (ms1 t).IsWhole := hstage0_1 ((cfg0.slots t 1).cast nbuf0_1)
/-- Window 2's staging memref at a point. -/
abbrev ms2 (t : Fin cfg0.N) : Memref sig .tc .vmem S8x256 .f32 := win0_2.stage (cfg0.slots t 2)
/-- The third window's buffer is held whole. -/
abbrev hs2 (t : Fin cfg0.N) : (ms2 t).IsWhole := hstage0_2 ((cfg0.slots t 2).cast nbuf0_2)
/-- Window 3's staging memref at a point. -/
abbrev ms3 (t : Fin cfg0.N) : Memref sig .tc .vmem S8x256 .f32 := win0_3.stage (cfg0.slots t 3)
/-- The fourth window's buffer is held whole. -/
abbrev hs3 (t : Fin cfg0.N) : (ms3 t).IsWhole := hstage0_3 ((cfg0.slots t 3).cast nbuf0_3)
/-- Window 4's staging memref at a point. -/
abbrev ms4 (t : Fin cfg0.N) : Memref sig .tc .vmem S256x256 .f32 := win0_4.stage (cfg0.slots t 4)
/-- The fifth window's buffer is held whole. -/
abbrev hs4 (t : Fin cfg0.N) : (ms4 t).IsWhole := hstage0_4 ((cfg0.slots t 4).cast nbuf0_4)
/-- Window 5's staging memref at a point. -/
abbrev ms5 (t : Fin cfg0.N) : Memref sig .tc .vmem S1x3 .f32 := win0_5.stage (cfg0.slots t 5)
/-- The sixth window's buffer is held whole. -/
abbrev hs5 (t : Fin cfg0.N) : (ms5 t).IsWhole := hstage0_5 ((cfg0.slots t 5).cast nbuf0_5)
/-- Window 6's staging memref at a point. -/
abbrev ms6 (t : Fin cfg0.N) : Memref sig .tc .vmem S256x256 .f32 := win0_6.stage (cfg0.slots t 6)
/-- The seventh window's buffer is held whole. -/
abbrev hs6 (t : Fin cfg0.N) : (ms6 t).IsWhole := hstage0_6 ((cfg0.slots t 6).cast nbuf0_6)
/-- Window 7's staging memref at a point. -/
abbrev ms7 (t : Fin cfg0.N) : Memref sig .tc .vmem S256x256 .f32 := win0_7.stage (cfg0.slots t 7)
/-- The eighth window's buffer is held whole. -/
abbrev hs7 (t : Fin cfg0.N) : (ms7 t).IsWhole := hstage0_7 ((cfg0.slots t 7).cast nbuf0_7)
/-- Window 8's staging memref at a point. -/
abbrev ms8 (t : Fin cfg0.N) : Memref sig .tc .vmem S1x256 .f32 := win0_8.stage (cfg0.slots t 8)
/-- The ninth window's buffer is held whole. -/
abbrev hs8 (t : Fin cfg0.N) : (ms8 t).IsWhole := hstage0_8 ((cfg0.slots t 8).cast nbuf0_8)
/-- Window 9's staging memref at a point. -/
abbrev ms9 (t : Fin cfg0.N) : Memref sig .tc .vmem S256x1 .f32 := win0_9.stage (cfg0.slots t 9)
/-- The tenth window's buffer is held whole. -/
abbrev hs9 (t : Fin cfg0.N) : (ms9 t).IsWhole := hstage0_9 ((cfg0.slots t 9).cast nbuf0_9)
/-- Window 10's staging memref at a point. -/
abbrev ms10 (t : Fin cfg0.N) : Memref sig .tc .vmem S256x256 .f32 := win0_10.stage (cfg0.slots t 10)
/-- The eleventh window's buffer is held whole. -/
abbrev hs10 (t : Fin cfg0.N) : (ms10 t).IsWhole := hstage0_10 ((cfg0.slots t 10).cast nbuf0_10)
/-- Window 11's staging memref at a point. -/
abbrev ms11 (t : Fin cfg0.N) : Memref sig .tc .vmem S2x8 .f32 := win0_11.stage (cfg0.slots t 11)
/-- The twelfth window's buffer is held whole. -/
abbrev hs11 (t : Fin cfg0.N) : (ms11 t).IsWhole := hstage0_11 ((cfg0.slots t 11).cast nbuf0_11)
/-- Scratch array 0 of the kernel. -/
abbrev sc0 : Memref sig .tc .vmem S2048x256 .bf16 := Memref.whole cc0_scratch0
/-- Scratch array 1 of the kernel. -/
abbrev sc1 : Memref sig .tc .vmem S8x2048x256 .f32 := Memref.whole cc0_scratch1
/-- Scratch array 2 of the kernel. -/
abbrev sc2 : Memref sig .tc .vmem S8x16x128 .f32 := Memref.whole cc0_scratch2
/-- Scratch array 3 of the kernel. -/
abbrev sc3 : Memref sig .tc .vmem S8x128 .f32 := Memref.whole cc0_scratch3
/-- Scratch array 4 of the kernel. -/
abbrev sc4 : Memref sig .tc .vmem S8x128 .f32 := Memref.whole cc0_scratch4

/-- What the launch hands the region, with the scratch arrays as memrefs held at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Hand

end
-- ==== Proof.KI.Rows.lean ====
module

public import proofs.«01_k».proof.Proof.KI.Setup
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What sixty-four rounds of taking the largest score carry: the scores with the taken ones masked, and the positions taken. -/
def picks (s : Vec F S8x16x128 .f32) : Vec F S8x16x128 .f32 × IVec S8x1x128 32 :=
  Scf.fold (n := k0_t1_loop.trips) (fun k a => (k0_pay6 a.1, k0_pay5 k a.1 a.2)) (s, k0_pay3)

/-- What the last point of the grid stores: from every graph's activations, scores, means and deviations, and the small weights, the two rows of discriminator scores. -/
def lastRows (e : Vec F S8x2048x256 .f32) (s : Vec F S8x16x128 .f32) (mu sg : Vec F S8x128 .f32) (x2 x3 : Vec F S8x256 .f32) (x5 : Vec F S1x3 .f32)
    (x6 x7 : Vec F S256x256 .f32) (x8 : Vec F S1x256 .f32) (x10 : Vec F S256x256 .f32) : Vec F S1x8 .f32 × Vec F S1x8 .f32 :=
  let v40 : Vec F S8x16x128 .f32 := s
  let v47 : IVec S64x2048 32 := iota .tc S64x2048 32 [1] iota_S64x2048_d1_w32
  let v50_1 : IVec S8x1x128 32 := (picks s).2
  let v51 : Vec F S1x1 .f32 := VecWindow.window x5 ![0, 0] S1x1.size inb_S1x3_S1x1_0_0
  let v53 : Vec F S1x1 .f32 := VecWindow.window x5 ![0, 1] S1x1.size inb_S1x3_S1x1_0_1
  let v55 : Vec F S1x1 .f32 := VecWindow.window x5 ![0, 2] S1x1.size inb_S1x3_S1x1_0_2
  let v68 : Vec F S256x256 .f32 := x6
  let v70 : Vec F S256x256 .f32 := x7
  let v72 : Vec F S1x256 .f32 := x8
  let v60 := k0_pay11 v51 v53 v55
  let v62 := k0_pay12 v51 v53 v55
  let v64 := k0_pay13 v51 v53 v55
  let v67 := k0_pay14 v51 v53 v55
  let v69 := k0_pay15 v68
  let v71 := k0_pay16 v70
  let v73 := k0_pay17 v72
  let v77 := k0_pay18 v50_1
  let v83 : Vec F S1x2048x256 .f32 := VecWindow.window e ![0, 0, 0] S1x2048x256.size inb_S8x2048x256_S1x2048x256_0_0_0
  let v97 : Vec F S1x1 .f32 := VecWindow.window mu ![0, 0] S1x1.size inb_S8x128_S1x1_0_0
  let v99 : Vec F S1x1 .f32 := VecWindow.window sg ![0, 0] S1x1.size inb_S8x128_S1x1_0_0
  let v104 := k0_pay19 v47 v77 v83 v97 v99
  let v120 := k0_pay20 v47 v60 v69 v71 v73 v77 v83 v97 v99
  let v122 := k0_pay21 v47 v77 v83 v97 v99
  let v170 : Vec F S1x2048x256 .f32 := VecWindow.window e ![1, 0, 0] S1x2048x256.size inb_S8x2048x256_S1x2048x256_1_0_0
  let v160 := k0_pay22 v62 v64 v67 v69 v71 v73 v104 v120 v122
  let v169 := k0_pay23 (F := F) v47 v50_1
  let v171 := k0_pay24 v170
  let v184 : Vec F S1x1 .f32 := VecWindow.window mu ![1, 0] S1x1.size inb_S8x128_S1x1_1_0
  let v186 : Vec F S1x1 .f32 := VecWindow.window sg ![1, 0] S1x1.size inb_S8x128_S1x1_1_0
  let v191 := k0_pay25 v169 v171 v184 v186
  let v207 := k0_pay26 v60 v69 v71 v73 v169 v171 v184 v186
  let v216 := k0_pay28 v69 v169 v171 v184 v186
  let v217 := k0_pay29 v71 v169 v171 v184 v186
  let v257 : Vec F S1x2048x256 .f32 := VecWindow.window e ![2, 0, 0] S1x2048x256.size inb_S8x2048x256_S1x2048x256_2_0_0
  let cst_81 : FVec F S64x256 .f32 := constant S64x256 .f32 0x00000000#32
  let v247 := k0_pay30 v62 v64 v67 v69 v71 v73 v191 v207 v216 v217
  let v256 := k0_pay31 (F := F) v47 v50_1
  let v262 := k0_pay35 v257
  let v265 := k0_pay36 v257
  let v266 := k0_pay37 v47 v50_1 v257
  let v271 : Vec F S1x1 .f32 := VecWindow.window mu ![2, 0] S1x1.size inb_S8x128_S1x1_2_0
  let v273 : Vec F S1x1 .f32 := VecWindow.window sg ![2, 0] S1x1.size inb_S8x128_S1x1_2_0
  let v278 := k0_pay38 v256 v262 v265 v266 cst_81 v271 v273
  let v294 := k0_pay39 v60 v69 v71 v73 v256 v262 v265 v266 cst_81 v271 v273
  let v312 := k0_pay40 v62 v69 v71 v73 v256 v262 v265 v266 cst_81 v271 v273
  let v344 : Vec F S1x2048x256 .f32 := VecWindow.window e ![3, 0, 0] S1x2048x256.size inb_S8x2048x256_S1x2048x256_3_0_0
  let v358 : Vec F S1x1 .f32 := VecWindow.window mu ![3, 0] S1x1.size inb_S8x128_S1x1_3_0
  let v334 := k0_pay41 v64 v67 v69 v71 v73 v278 v294 v312
  let v357 := k0_pay42 v47 v50_1 v344
  let v359 := k0_pay43 v358
  let v360 : Vec F S1x1 .f32 := VecWindow.window sg ![3, 0] S1x1.size inb_S8x128_S1x1_3_0
  let v400 := k0_pay45 v60 v62 v69 v71 v73 v357 v359 v360
  let v404 := k0_pay47 v69 v357 v359 v360
  let v407 := k0_pay48 v71 v357 v359 v360
  let v431 : Vec F S1x2048x256 .f32 := VecWindow.window e ![4, 0, 0] S1x2048x256.size inb_S8x2048x256_S1x2048x256_4_0_0
  let v445 : Vec F S1x1 .f32 := VecWindow.window mu ![4, 0] S1x1.size inb_S8x128_S1x1_4_0
  let v447 : Vec F S1x1 .f32 := VecWindow.window sg ![4, 0] S1x1.size inb_S8x128_S1x1_4_0
  let cst_131 : FVec F S64x256 .f32 := constant S64x256 .f32 0x00000000#32
  let v421 := k0_pay49 v64 v67 v73 v400 v404 v407
  let v452 := k0_pay50 v47 v50_1 v431 v445 v447
  let v453 := k0_pay51 v47 v50_1 v431 v445 v447
  let v454 := k0_pay52 v69
  let v487 := k0_pay53 v60 v62 v69 v71 v73 v452 v453 v454 cst_131
  let v502 := k0_pay54 v69 v71 v73 v452
  let v518 : Vec F S1x2048x256 .f32 := VecWindow.window e ![5, 0, 0] S1x2048x256.size inb_S8x2048x256_S1x2048x256_5_0_0
  let v532 : Vec F S1x1 .f32 := VecWindow.window mu ![5, 0] S1x1.size inb_S8x128_S1x1_5_0
  let v534 : Vec F S1x1 .f32 := VecWindow.window sg ![5, 0] S1x1.size inb_S8x128_S1x1_5_0
  let v508 := k0_pay55 v64 v67 v487 v502
  let v539 := k0_pay56 v47 v50_1 v518 v532 v534
  let v550 := k0_pay57 v47 v50_1 v69 v71 v73 v518 v532 v534
  let v595 := k0_pay58 v60 v62 v64 v67 v69 v71 v73 v539 v550
  let v599 := k0_pay59 v50_1
  let v605 : Vec F S1x2048x256 .f32 := VecWindow.window e ![6, 0, 0] S1x2048x256.size inb_S8x2048x256_S1x2048x256_6_0_0
  let v619 : Vec F S1x1 .f32 := VecWindow.window mu ![6, 0] S1x1.size inb_S8x128_S1x1_6_0
  let v621 : Vec F S1x1 .f32 := VecWindow.window sg ![6, 0] S1x1.size inb_S8x128_S1x1_6_0
  let v626 := k0_pay60 v47 v599 v605 v619 v621
  let v642 := k0_pay61 v47 v60 v69 v71 v73 v599 v605 v619 v621
  let v644 := k0_pay62 v47 v599 v605 v619 v621
  let v692 : Vec F S1x2048x256 .f32 := VecWindow.window e ![7, 0, 0] S1x2048x256.size inb_S8x2048x256_S1x2048x256_7_0_0
  let v682 := k0_pay63 v62 v64 v67 v69 v71 v73 v626 v642 v644
  let v691 := k0_pay64 (F := F) v47 v50_1
  let v693 := k0_pay65 v692
  let v706 : Vec F S1x1 .f32 := VecWindow.window mu ![7, 0] S1x1.size inb_S8x128_S1x1_7_0
  let v708 : Vec F S1x1 .f32 := VecWindow.window sg ![7, 0] S1x1.size inb_S8x128_S1x1_7_0
  let v713 := k0_pay66 v691 v693 v706 v708
  let v729 := k0_pay67 v60 v69 v71 v73 v691 v693 v706 v708
  let v738 := k0_pay69 v69 v691 v693 v706 v708
  let v739 := k0_pay70 v71 v691 v693 v706 v708
  let v771 : Vec F S256x256 .f32 := x10
  let v775 : Vec F S8x256 .f32 := x2
  let v781 : Vec F S8x256 .f32 := x3
  (k0_pay72 v62 v64 v67 v69 v71 v73 v160 v247 v334 v421 v508 v595 v682 v713 v729 v738 v739 v771 v775, k0_pay1 (k0_pay71 v62 v64 v67 v69 v71 v73 v160 v247 v334 v421 v508 v595 v682 v713 v729 v738 v739 v771) (k0_pay73 v781))

end Cert.KernelIdeal.Hand

end
-- ==== Proof.KI.Inv.lean ====
module

public import proofs.«01_k».proof.Proof.KI.Rows
public import Idealize.ShloMosaic.Lib.VecWindow
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Point number `n` of the grid. -/
def pt (n : ℕ) (h : n < 32) : Fin cfg0.N := ⟨n, lt_of_lt_of_eq h N_0.symm⟩

/-- The projected features of the graph whose first tile is point `t`. -/
def xwAt (c : Dev nD) (t : Fin cfg0.N) : Vec F S2048x256 .bf16 := k0_pay74 (iblk m c 1 t) (iblk m c 4 t)

/-- The tile of activations that point `4 b + k` stores. -/
def tileAt (c : Dev nD) (b : Fin 8) (k : Fin 4) : Vec F S1x512x256 .f32 :=
  k0_pay75 (iblk m c 0 (pt (4 * b.val + k.val) (by omega))) (xwAt m c (pt (4 * b.val) (by omega)))

/-- All the activations, tile by tile. -/
def actAll (c : Dev nD) : Vec F S8x2048x256 .f32 := fun j =>
  tileAt m c ⟨(j 0).val, (j 0).isLt⟩ ⟨(j 1).val / 512, by have h : (j 1).val < 2048 := (j 1).isLt; omega⟩
    (ix3 (0 : Fin 1) ⟨(j 1).val % 512, Nat.mod_lt _ (by norm_num)⟩ (⟨(j 2).val, (j 2).isLt⟩ : Fin 256))

/-- The activations of one graph. -/
def actOf (c : Dev nD) (b : Fin 8) : Vec F S1x2048x256 .f32 := fun j =>
  actAll m c (ix3 b (⟨(j 1).val, (j 1).isLt⟩ : Fin 2048) (⟨(j 2).val, (j 2).isLt⟩ : Fin 256))

/-- All the scores. -/
def scoreAll (c : Dev nD) : Vec F S8x16x128 .f32 := fun j =>
  k0_pay81 (actOf m c ⟨(j 0).val, (j 0).isLt⟩) (iblk m c 9 (pt (4 * (j 0).val + 3) (by have h : (j 0).val < 8 := (j 0).isLt; omega)))
    (ix3 (0 : Fin 1) (⟨(j 1).val, (j 1).isLt⟩ : Fin 16) (⟨(j 2).val, (j 2).isLt⟩ : Fin 128))

/-- All the means, each along its row. -/
def meanAll (c : Dev nD) : Vec F S8x128 .f32 := fun j =>
  k0_pay79 (actOf m c ⟨(j 0).val, (j 0).isLt⟩) (ix2 (0 : Fin 1) (⟨(j 1).val, (j 1).isLt⟩ : Fin 128))

/-- All the deviations, each along its row. -/
def devAll (c : Dev nD) : Vec F S8x128 .f32 := fun j =>
  k0_pay80 (actOf m c ⟨(j 0).val, (j 0).isLt⟩) (ix2 (0 : Fin 1) (⟨(j 1).val, (j 1).isLt⟩ : Fin 128))

/-- The two rows that the last point stores. -/
def outRows (c : Dev nD) : Vec F S1x8 .f32 × Vec F S1x8 .f32 :=
  lastRows (actAll m c) (scoreAll m c) (meanAll m c) (devAll m c) (iblk m c 2 (pt 31 (by norm_num))) (iblk m c 3 (pt 31 (by norm_num))) (iblk m c 5 (pt 31 (by norm_num)))
    (iblk m c 6 (pt 31 (by norm_num))) (iblk m c 7 (pt 31 (by norm_num))) (iblk m c 8 (pt 31 (by norm_num))) (iblk m c 10 (pt 31 (by norm_num)))

/-- The kernel's output block: the two rows, one under the other. -/
def outBlk (c : Dev nD) : Vec F S2x8 .f32 := fun j =>
  if (j 0).val = 0 then (outRows m c).1 (ix2 (0 : Fin 1) (⟨(j 1).val, (j 1).isLt⟩ : Fin 8)) else (outRows m c).2 (ix2 (0 : Fin 1) (⟨(j 1).val, (j 1).isLt⟩ : Fin 8))

/-- What the scratch arrays hold when `n` points are done: the current graph's projected features, every finished tile of activations, and every finished graph's scores, mean and deviation. -/
structure Done (c : Dev nD) (n : ℕ) (xw : Vec F S2048x256 .bf16) (e : Vec F S8x2048x256 .f32) (s : Vec F S8x16x128 .f32) (mu sg : Vec F S8x128 .f32) : Prop where
  xw_eq : ∀ h : n < 32, n % 4 ≠ 0 → xw = xwAt m c (pt (4 * (n / 4)) (by omega))
  e_eq : ∀ (a : Fin 8) (b : Fin 2048) (d : Fin 256), 4 * a.val + b.val / 512 < n → e (ix3 a b d) = actAll m c (ix3 a b d)
  s_eq : ∀ (a : Fin 8) (b : Fin 16) (d : Fin 128), 4 * a.val + 3 < n → s (ix3 a b d) = scoreAll m c (ix3 a b d)
  mu_eq : ∀ (a : Fin 8) (d : Fin 128), 4 * a.val + 3 < n → mu (ix2 a d) = meanAll m c (ix2 a d)
  sg_eq : ∀ (a : Fin 8) (d : Fin 128), 4 * a.val + 3 < n → sg (ix2 a d) = devAll m c (ix2 a d)

/-- Where the activations of a point are stored. -/
theorem off1_eq : ∀ t : Fin cfg0.N, k0_off1 (grid0.coords t) = ![t.val / 4, 512 * (t.val % 4), 0] := by decide +kernel
/-- Where a graph's activations begin. -/
theorem off2_eq : ∀ t : Fin cfg0.N, k0_off2 (grid0.coords t) = ![t.val / 4, 0, 0] := by decide +kernel
/-- The row that a graph's mean and deviation take. -/
theorem off3_eq : ∀ t : Fin cfg0.N, k0_off3 (grid0.coords t) = ![t.val / 4, 0] := by decide +kernel
/-- Where a graph's scores are stored. -/
theorem off4_eq : ∀ t : Fin cfg0.N, k0_off4 (grid0.coords t) = ![t.val / 4, 0, 0] := by decide +kernel

/-- Before any point nothing is claimed. -/
theorem Done.zero (c : Dev nD) (xw : Vec F S2048x256 .bf16) (e : Vec F S8x2048x256 .f32) (s : Vec F S8x16x128 .f32) (mu sg : Vec F S8x128 .f32) : Done m c 0 xw e s mu sg where
  xw_eq := fun _ h => absurd rfl h
  e_eq := fun a b d h => absurd h (by omega)
  s_eq := fun a b d h => absurd h (by omega)
  mu_eq := fun a d h => absurd h (by omega)
  sg_eq := fun a d h => absurd h (by omega)

/-- A three-axis put at literal offsets, read at an index. -/
theorem put3_apply {α : Type} {a b c : ℕ} (x : (⟨3, ![a, b, c]⟩ : Shape).Idx → α) (o p q u v w : ℕ) (y : (⟨3, ![u, v, w]⟩ : Shape).Idx → α) (i : Fin a) (j : Fin b) (k : Fin c) :
    VecWindow.put (s := ⟨3, ![a, b, c]⟩) x ![o, p, q] ![u, v, w] y (ix3 i j k)
      = if h : (o ≤ i.val ∧ i.val < o + u) ∧ (p ≤ j.val ∧ j.val < p + v) ∧ (q ≤ k.val ∧ k.val < q + w) then
          y (ix3 ⟨i.val - o, by omega⟩ ⟨j.val - p, by omega⟩ ⟨k.val - q, by omega⟩) else x (ix3 i j k) := by
  unfold VecWindow.put
  by_cases h : (o ≤ i.val ∧ i.val < o + u) ∧ (p ≤ j.val ∧ j.val < p + v) ∧ (q ≤ k.val ∧ k.val < q + w)
  · rw [dif_pos h, dif_pos (by intro l; fin_cases l; exacts [h.1, h.2.1, h.2.2])]
    congr 1; funext l; fin_cases l <;> rfl
  · rw [dif_neg h, dif_neg]
    intro hl; exact h ⟨hl 0, hl 1, hl 2⟩

/-- A two-axis put at literal offsets, read at an index. -/
theorem put2_apply {α : Type} {a b : ℕ} (x : (⟨2, ![a, b]⟩ : Shape).Idx → α) (o p u v : ℕ) (y : (⟨2, ![u, v]⟩ : Shape).Idx → α) (i : Fin a) (j : Fin b) :
    VecWindow.put (s := ⟨2, ![a, b]⟩) x ![o, p] ![u, v] y (ix2 i j)
      = if h : (o ≤ i.val ∧ i.val < o + u) ∧ (p ≤ j.val ∧ j.val < p + v) then
          y (ix2 ⟨i.val - o, by omega⟩ ⟨j.val - p, by omega⟩) else x (ix2 i j) := by
  unfold VecWindow.put
  by_cases h : (o ≤ i.val ∧ i.val < o + u) ∧ (p ≤ j.val ∧ j.val < p + v)
  · rw [dif_pos h, dif_pos (by intro l; fin_cases l; exacts [h.1, h.2])]
    congr 1; funext l; fin_cases l <;> rfl
  · rw [dif_neg h, dif_neg]
    intro hl; exact h ⟨hl 0, hl 1⟩

/-- After point `t`'s store, every tile up to it is in place. -/
theorem tile_step (c : Dev nD) (t : Fin cfg0.N) {e : Vec F S8x2048x256 .f32}
    (h : ∀ (a : Fin 8) (b : Fin 2048) (d : Fin 256), 4 * a.val + b.val / 512 < t.val → e (ix3 a b d) = actAll m c (ix3 a b d))
    (w : Vec F S1x512x256 .f32) (hw : w = k0_pay75 (iblk m c 0 t) (xwAt m c (pt (4 * (t.val / 4)) (by have := lt_of_lt_of_eq t.isLt N_0; omega)))) :
    ∀ (a : Fin 8) (b : Fin 2048) (d : Fin 256), 4 * a.val + b.val / 512 < t.val + 1 →
      VecWindow.put e (k0_off1 (grid0.coords t)) S1x512x256.size w (ix3 a b d) = actAll m c (ix3 a b d) := by
  intro a b d hlt
  have ht := lt_of_lt_of_eq t.isLt N_0
  rw [off1_eq]
  refine (put3_apply e _ _ _ 1 512 256 w a b d).trans ?_
  by_cases hh : 4 * a.val + b.val / 512 = t.val
  · have ha : a.val = t.val / 4 := by omega
    have hb : b.val / 512 = t.val % 4 := by omega
    rw [dif_pos (by omega), hw]
    have e1 : (pt (4 * (t.val / 4)) (by omega) : Fin cfg0.N) = pt (4 * a.val) (by omega) := Fin.ext (by show 4 * (t.val / 4) = 4 * a.val; omega)
    have e2 : t = pt (4 * a.val + b.val / 512) (by omega) := Fin.ext hh.symm
    show _ = k0_pay75 (iblk m c 0 (pt (4 * a.val + b.val / 512) _)) (xwAt m c (pt (4 * a.val) _)) (ix3 (0 : Fin 1) ⟨b.val % 512, _⟩ ⟨d.val, _⟩)
    rw [← e1, ← e2]
    congr 1
    funext l; fin_cases l
    · exact Fin.ext (by show a.val - t.val / 4 = 0; omega)
    · exact Fin.ext (by show b.val - 512 * (t.val % 4) = b.val % 512; omega)
    · exact Fin.ext (by show d.val - 0 = d.val; omega)
  · rw [dif_neg (by omega)]
    exact h a b d (by omega)

/-- When the last tile of a graph is in place, the window of that graph is its activations. -/
theorem slab_eq (c : Dev nD) (t : Fin cfg0.N) (h3 : t.val % 4 = 3) (hb : t.val / 4 < 8) {e : Vec F S8x2048x256 .f32}
    (h : ∀ (a : Fin 8) (b : Fin 2048) (d : Fin 256), 4 * a.val + b.val / 512 < t.val + 1 → e (ix3 a b d) = actAll m c (ix3 a b d))
    (inb : ∀ a, k0_off2 (grid0.coords t) a + S1x2048x256.size a ≤ S8x2048x256.size a) :
    VecWindow.window e (k0_off2 (grid0.coords t)) S1x2048x256.size inb = actOf m c ⟨t.val / 4, hb⟩ := by
  funext j
  have h1 : (j 1).val < 2048 := (j 1).isLt
  have h0 : (j 0).val < 1 := (j 0).isLt
  refine Eq.trans (congrArg e ?_) (h ⟨t.val / 4, hb⟩ ⟨(j 1).val, (j 1).isLt⟩ ⟨(j 2).val, (j 2).isLt⟩ (by show 4 * (t.val / 4) + (j 1).val / 512 < _; omega))
  have ho := off2_eq t
  funext l
  apply Fin.ext
  show k0_off2 (grid0.coords t) l + 1 * (j l).val = _
  refine (congrArg (· + 1 * (j l).val) (congrFun ho l)).trans ?_
  fin_cases l
  · show t.val / 4 + 1 * (j 0).val = t.val / 4; omega
  · show 0 + 1 * (j 1).val = (j 1).val; omega
  · show 0 + 1 * (j 2).val = (j 2).val; omega

/-- A row of a three-axis array, put at graph `t / 4`, extends what held for the graphs before. -/
theorem score_step (c : Dev nD) (t : Fin cfg0.N) (h3 : t.val % 4 = 3) (hb : t.val / 4 < 8) {s : Vec F S8x16x128 .f32}
    (h : ∀ (a : Fin 8) (b : Fin 16) (d : Fin 128), 4 * a.val + 3 < t.val → s (ix3 a b d) = scoreAll m c (ix3 a b d))
    (w : Vec F S1x16x128 .f32) (hw : w = k0_pay81 (actOf m c ⟨t.val / 4, hb⟩) (iblk m c 9 t)) :
    ∀ (a : Fin 8) (b : Fin 16) (d : Fin 128), 4 * a.val + 3 < t.val + 1 →
      VecWindow.put s (k0_off4 (grid0.coords t)) S1x16x128.size w (ix3 a b d) = scoreAll m c (ix3 a b d) := by
  intro a b d hlt
  rw [off4_eq]
  refine (put3_apply s _ _ _ 1 16 128 w a b d).trans ?_
  by_cases hh : 4 * a.val + 3 = t.val
  · rw [dif_pos (by omega), hw]
    have e1 : a = ⟨t.val / 4, hb⟩ := Fin.ext (by show a.val = t.val / 4; omega)
    have e2 : t = pt (4 * a.val + 3) (by omega) := Fin.ext hh.symm
    show _ = k0_pay81 (actOf m c a) (iblk m c 9 (pt (4 * a.val + 3) _)) (ix3 (0 : Fin 1) ⟨b.val, _⟩ ⟨d.val, _⟩)
    rw [← e2, ← e1]
    congr 1
    funext l; fin_cases l
    · exact Fin.ext (by show a.val - t.val / 4 = 0; omega)
    · exact Fin.ext (by show b.val - 0 = b.val; omega)
    · exact Fin.ext (by show d.val - 0 = d.val; omega)
  · rw [dif_neg (by omega)]
    exact h a b d (by omega)

/-- A row of a two-axis array, put at graph `t / 4`, extends what held for the graphs before. -/
theorem row_step (t : Fin cfg0.N) (h3 : t.val % 4 = 3) (hb : t.val / 4 < 8) {s G : Vec F S8x128 .f32}
    (h : ∀ (a : Fin 8) (d : Fin 128), 4 * a.val + 3 < t.val → s (ix2 a d) = G (ix2 a d))
    (w : Vec F S1x128 .f32) (hw : ∀ d : Fin 128, w (ix2 (0 : Fin 1) d) = G (ix2 ⟨t.val / 4, hb⟩ d)) :
    ∀ (a : Fin 8) (d : Fin 128), 4 * a.val + 3 < t.val + 1 →
      VecWindow.put s (k0_off3 (grid0.coords t)) S1x128.size w (ix2 a d) = G (ix2 a d) := by
  intro a d hlt
  rw [off3_eq]
  refine (put2_apply s _ _ 1 128 w a d).trans ?_
  by_cases hh : 4 * a.val + 3 = t.val
  · rw [dif_pos (by omega)]
    have e1 : a = ⟨t.val / 4, hb⟩ := Fin.ext (by show a.val = t.val / 4; omega)
    refine Eq.trans (congrArg w ?_) ((hw d).trans (congrArg (fun x => G (ix2 x d)) e1.symm))
    funext l; fin_cases l
    · exact Fin.ext (by show a.val - t.val / 4 = 0; omega)
    · exact Fin.ext (by show d.val - 0 = d.val; omega)
  · rw [dif_neg (by omega)]
    exact h a d (by omega)

end Cert.KernelIdeal.Hand

end
-- ==== Proof.KI.Base.lean ====
module

public import proofs.«01_k».proof.Proof.KI.Setup
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S256x256 .f32) (harg6 : arg6.IsWhole)
  (arg7 : Memref sig .tc .vmem S1x3 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S256x1 .f32) (harg11 : arg11.IsWhole)
  (arg12 : Memref sig .tc .vmem S256x256 .f32) (harg12 : arg12.IsWhole)
  (arg13 : Memref sig .tc .vmem S2x8 .f32) (harg13 : arg13.IsWhole)
  (arg14 : Memref sig .tc .vmem S2048x256 .bf16) (harg14 : arg14.IsWhole)
  (arg15 : Memref sig .tc .vmem S8x2048x256 .f32) (harg15 : arg15.IsWhole)
  (arg16 : Memref sig .tc .vmem S8x16x128 .f32) (harg16 : arg16.IsWhole)
  (arg17 : Memref sig .tc .vmem S8x128 .f32) (harg17 : arg17.IsWhole)
  (arg18 : Memref sig .tc .vmem S8x128 .f32) (harg18 : arg18.IsWhole)
  (x0 : Vec F S1x512x2048 .f32) (x1 : Vec F S1x2048x256 .f32) (x2 : Vec F S8x256 .f32) (x3 : Vec F S8x256 .f32) (x4 : Vec F S256x256 .f32) (x5 : Vec F S1x3 .f32) (x6 : Vec F S256x256 .f32) (x7 : Vec F S256x256 .f32) (x8 : Vec F S1x256 .f32) (x9 : Vec F S256x1 .f32) (x10 : Vec F S256x256 .f32)
  (xs0 : Vec F S2048x256 .bf16) (xs1 : Vec F S8x2048x256 .f32) (xs2 : Vec F S8x16x128 .f32) (xs3 : Vec F S8x128 .f32) (xs4 : Vec F S8x128 .f32)

/-- A load at a unit-stride rectangle reads a window of what the view reads. -/
theorem readAt_window {κ : Kind} {sp : Space} {s : Shape} {e : EltTy} {V : EltTy → Type} (v : View sig κ sp s e) (f : v.ty.Contents V) {off size : Fin s.rank → ℕ}
    (inb : ∀ a, off a + size a ≤ s.size a) : v.readAt V (Rect.unit off size inb).toLoadRect f = VecWindow.window (v.read V f) off size inb := rfl

/-- The window of a three-axis array at the origin, of the array's own sizes, is the array. -/
theorem window_full3 {α : Type} {a b c : ℕ} (x : (⟨3, ![a, b, c]⟩ : Shape).Idx → α) (inb : ∀ k, (![0, 0, 0] : Fin 3 → ℕ) k + (![a, b, c] : Fin 3 → ℕ) k ≤ (![a, b, c] : Fin 3 → ℕ) k) :
    VecWindow.window (s := ⟨3, ![a, b, c]⟩) x ![0, 0, 0] ![a, b, c] inb = x :=
  funext fun y => congrArg x (Rect.emb_unit_full (s := ⟨3, ![a, b, c]⟩) inb y)

/-- The window of a two-axis array at the origin, of the array's own sizes, is the array. -/
theorem window_full2 {α : Type} {a b : ℕ} (x : (⟨2, ![a, b]⟩ : Shape).Idx → α) (inb : ∀ k, (![0, 0] : Fin 2 → ℕ) k + (![a, b] : Fin 2 → ℕ) k ≤ (![a, b] : Fin 2 → ℕ) k) :
    VecWindow.window (s := ⟨2, ![a, b]⟩) x ![0, 0] ![a, b] inb = x :=
  funext fun y => congrArg x (Rect.emb_unit_full (s := ⟨2, ![a, b]⟩) inb y)

/-- A two-axis array put whole at the origin is what was put. -/
theorem put_full2 {α : Type} {a b : ℕ} (x w : (⟨2, ![a, b]⟩ : Shape).Idx → α) :
    VecWindow.put (s := ⟨2, ![a, b]⟩) x ![0, 0] ![a, b] w = w := by
  have inb : ∀ k, (![0, 0] : Fin 2 → ℕ) k + (![a, b] : Fin 2 → ℕ) k ≤ (![a, b] : Fin 2 → ℕ) k := by
    intro k; fin_cases k <;> simp
  exact (window_full2 _ inb).symm.trans (VecWindow.window_put_same (s := ⟨2, ![a, b]⟩) x ![0, 0] ![a, b] inb w)

/-- The eleven input blocks, each staging buffer held whole. -/
def insOwn : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10)

end Cert.KernelIdeal.Hand

end
-- ==== Proof.KI.RunA.lean ====
module

public import proofs.«01_k».proof.Proof.KI.Base
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S256x256 .f32) (harg6 : arg6.IsWhole)
  (arg7 : Memref sig .tc .vmem S1x3 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S256x1 .f32) (harg11 : arg11.IsWhole)
  (arg12 : Memref sig .tc .vmem S256x256 .f32) (harg12 : arg12.IsWhole)
  (arg13 : Memref sig .tc .vmem S2x8 .f32) (harg13 : arg13.IsWhole)
  (arg14 : Memref sig .tc .vmem S2048x256 .bf16) (harg14 : arg14.IsWhole)
  (arg15 : Memref sig .tc .vmem S8x2048x256 .f32) (harg15 : arg15.IsWhole)
  (arg16 : Memref sig .tc .vmem S8x16x128 .f32) (harg16 : arg16.IsWhole)
  (arg17 : Memref sig .tc .vmem S8x128 .f32) (harg17 : arg17.IsWhole)
  (arg18 : Memref sig .tc .vmem S8x128 .f32) (harg18 : arg18.IsWhole)
  (x0 : Vec F S1x512x2048 .f32) (x1 : Vec F S1x2048x256 .f32) (x2 : Vec F S8x256 .f32) (x3 : Vec F S8x256 .f32) (x4 : Vec F S256x256 .f32) (x5 : Vec F S1x3 .f32) (x6 : Vec F S256x256 .f32) (x7 : Vec F S256x256 .f32) (x8 : Vec F S1x256 .f32) (x9 : Vec F S256x1 .f32) (x10 : Vec F S256x256 .f32)
  (xs0 : Vec F S2048x256 .bf16) (xs1 : Vec F S8x2048x256 .f32) (xs2 : Vec F S8x16x128 .f32) (xs3 : Vec F S8x128 .f32) (xs4 : Vec F S8x128 .f32)
set_option maxHeartbeats 4000000 in
/-- The first tile of a graph: the body stores the projected features of the graph, then the tile of activations. -/
theorem run_first (hc1 : k0_cond1 i = 1#1) (hc2 : ¬ k0_cond2 i = 1#1) (hc3 : ¬ k0_cond3 i = 1#1) (d : Vec F S2x8 .f32) (E : Set ℕ) (K : PUnit → sProp 𝕄) :
    iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
        ∗ (iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare (k0_pay74 x1 x4) ∗ owns (c : Thread nD τ) arg15 fullShare (VecWindow.put xs1 (k0_off1 i) S1x512x256.size (k0_pay75 x0 (k0_pay74 x1 x4))) ∗ owns (c : Thread nD τ) arg16 fullShare xs2 ∗ owns (c : Thread nD τ) arg17 fullShare xs3 ∗ owns (c : Thread nD τ) arg18 fullShare xs4) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  simp only [k0_part17_eq_skeleton]
  unfold insOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; · ipureintro; exact harg13.read_unread _
    iexact H11
  isplitl [HS0]
  · iexists _; isplitr
    swap; · iexact HS0
    ipureintro
    try delta run_first.sl.HS0_1 run_first.sl.v10
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS1]
  · iexists _; isplitr
    swap; · iexact HS1
    ipureintro
    try delta run_first.sl.HS0_1 run_first.sl.v10
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS2]
  · iexists _; isplitr; · ipureintro; exact harg16.read_unread _
    iexact HS2
  isplitl [HS3]
  · iexists _; isplitr; · ipureintro; exact harg17.read_unread _
    iexact HS3
  iexists _; isplitr; · ipureintro; exact harg18.read_unread _
  iexact HS4

end Cert.KernelIdeal.Hand

end
-- ==== Proof.KI.RunB.lean ====
module

public import proofs.«01_k».proof.Proof.KI.Base
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S256x256 .f32) (harg6 : arg6.IsWhole)
  (arg7 : Memref sig .tc .vmem S1x3 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S256x1 .f32) (harg11 : arg11.IsWhole)
  (arg12 : Memref sig .tc .vmem S256x256 .f32) (harg12 : arg12.IsWhole)
  (arg13 : Memref sig .tc .vmem S2x8 .f32) (harg13 : arg13.IsWhole)
  (arg14 : Memref sig .tc .vmem S2048x256 .bf16) (harg14 : arg14.IsWhole)
  (arg15 : Memref sig .tc .vmem S8x2048x256 .f32) (harg15 : arg15.IsWhole)
  (arg16 : Memref sig .tc .vmem S8x16x128 .f32) (harg16 : arg16.IsWhole)
  (arg17 : Memref sig .tc .vmem S8x128 .f32) (harg17 : arg17.IsWhole)
  (arg18 : Memref sig .tc .vmem S8x128 .f32) (harg18 : arg18.IsWhole)
  (x0 : Vec F S1x512x2048 .f32) (x1 : Vec F S1x2048x256 .f32) (x2 : Vec F S8x256 .f32) (x3 : Vec F S8x256 .f32) (x4 : Vec F S256x256 .f32) (x5 : Vec F S1x3 .f32) (x6 : Vec F S256x256 .f32) (x7 : Vec F S256x256 .f32) (x8 : Vec F S1x256 .f32) (x9 : Vec F S256x1 .f32) (x10 : Vec F S256x256 .f32)
  (xs0 : Vec F S2048x256 .bf16) (xs1 : Vec F S8x2048x256 .f32) (xs2 : Vec F S8x16x128 .f32) (xs3 : Vec F S8x128 .f32) (xs4 : Vec F S8x128 .f32)
set_option maxHeartbeats 4000000 in
/-- A middle tile of a graph: the body stores the tile of activations, and nothing else. -/
theorem run_mid (hc1 : ¬ k0_cond1 i = 1#1) (hc2 : ¬ k0_cond2 i = 1#1) (hc3 : ¬ k0_cond3 i = 1#1) (d : Vec F S2x8 .f32) (E : Set ℕ) (K : PUnit → sProp 𝕄) :
    iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
        ∗ (iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare (VecWindow.put xs1 (k0_off1 i) S1x512x256.size (k0_pay75 x0 xs0)) ∗ owns (c : Thread nD τ) arg16 fullShare xs2 ∗ owns (c : Thread nD τ) arg17 fullShare xs3 ∗ owns (c : Thread nD τ) arg18 fullShare xs4) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  simp only [k0_part17_eq_skeleton]
  unfold insOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; · ipureintro; exact harg13.read_unread _
    iexact H11
  isplitl [HS0]
  · iexists _; isplitr; · ipureintro; exact harg14.read_unread _
    iexact HS0
  isplitl [HS1]
  · iexists _; isplitr
    swap; · iexact HS1
    ipureintro
    simp only [View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS2]
  · iexists _; isplitr; · ipureintro; exact harg16.read_unread _
    iexact HS2
  isplitl [HS3]
  · iexists _; isplitr; · ipureintro; exact harg17.read_unread _
    iexact HS3
  iexists _; isplitr; · ipureintro; exact harg18.read_unread _
  iexact HS4

end Cert.KernelIdeal.Hand

end
-- ==== Proof.KI.RunC.lean ====
module

public import proofs.«01_k».proof.Proof.KI.Base
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S256x256 .f32) (harg6 : arg6.IsWhole)
  (arg7 : Memref sig .tc .vmem S1x3 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S256x1 .f32) (harg11 : arg11.IsWhole)
  (arg12 : Memref sig .tc .vmem S256x256 .f32) (harg12 : arg12.IsWhole)
  (arg13 : Memref sig .tc .vmem S2x8 .f32) (harg13 : arg13.IsWhole)
  (arg14 : Memref sig .tc .vmem S2048x256 .bf16) (harg14 : arg14.IsWhole)
  (arg15 : Memref sig .tc .vmem S8x2048x256 .f32) (harg15 : arg15.IsWhole)
  (arg16 : Memref sig .tc .vmem S8x16x128 .f32) (harg16 : arg16.IsWhole)
  (arg17 : Memref sig .tc .vmem S8x128 .f32) (harg17 : arg17.IsWhole)
  (arg18 : Memref sig .tc .vmem S8x128 .f32) (harg18 : arg18.IsWhole)
  (x0 : Vec F S1x512x2048 .f32) (x1 : Vec F S1x2048x256 .f32) (x2 : Vec F S8x256 .f32) (x3 : Vec F S8x256 .f32) (x4 : Vec F S256x256 .f32) (x5 : Vec F S1x3 .f32) (x6 : Vec F S256x256 .f32) (x7 : Vec F S256x256 .f32) (x8 : Vec F S1x256 .f32) (x9 : Vec F S256x1 .f32) (x10 : Vec F S256x256 .f32)
  (xs0 : Vec F S2048x256 .bf16) (xs1 : Vec F S8x2048x256 .f32) (xs2 : Vec F S8x16x128 .f32) (xs3 : Vec F S8x128 .f32) (xs4 : Vec F S8x128 .f32)
set_option maxHeartbeats 4000000 in
/-- The last tile of a graph: the body stores the tile of activations, then the graph's moments and scores from the whole graph. -/
theorem run_last (hc1 : ¬ k0_cond1 i = 1#1) (hc2 : k0_cond2 i = 1#1) (hc3 : ¬ k0_cond3 i = 1#1) (d : Vec F S2x8 .f32) (E : Set ℕ) (K : PUnit → sProp 𝕄) :
    iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
        ∗ (iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare (VecWindow.put xs1 (k0_off1 i) S1x512x256.size (k0_pay75 x0 xs0)) ∗ owns (c : Thread nD τ) arg16 fullShare (VecWindow.put xs2 (k0_off4 i) S1x16x128.size (k0_pay81 (VecWindow.window (VecWindow.put xs1 (k0_off1 i) S1x512x256.size (k0_pay75 x0 xs0)) (k0_off2 i) S1x2048x256.size (k0_off2_inb i hc2)) x9)) ∗ owns (c : Thread nD τ) arg17 fullShare (VecWindow.put xs3 (k0_off3 i) S1x128.size (k0_pay79 (VecWindow.window (VecWindow.put xs1 (k0_off1 i) S1x512x256.size (k0_pay75 x0 xs0)) (k0_off2 i) S1x2048x256.size (k0_off2_inb i hc2)))) ∗ owns (c : Thread nD τ) arg18 fullShare (VecWindow.put xs4 (k0_off3 i) S1x128.size (k0_pay80 (VecWindow.window (VecWindow.put xs1 (k0_off1 i) S1x512x256.size (k0_pay75 x0 xs0)) (k0_off2 i) S1x2048x256.size (k0_off2_inb i hc2))))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  simp only [k0_part17_eq_skeleton]
  unfold insOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr; · ipureintro; exact harg13.read_unread _
    iexact H11
  isplitl [HS0]
  · iexists _; isplitr; · ipureintro; exact harg14.read_unread _
    iexact HS0
  isplitl [HS1]
  · iexists _; isplitr
    swap; · iexact HS1
    ipureintro
    try delta run_last.sl.HS1_1
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS2]
  · iexists _; isplitr
    swap; · iexact HS2
    ipureintro
    try delta run_last.sl.HS1_1
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS3]
  · iexists _; isplitr
    swap; · iexact HS3
    ipureintro
    try delta run_last.sl.HS1_1
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  iexists _; isplitr
  swap; · iexact HS4
  · ipureintro
    try delta run_last.sl.HS1_1
    simp only [View.readCov, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]

end Cert.KernelIdeal.Hand

end
-- ==== Proof.KI.RunD.lean ====
module

public import proofs.«01_k».proof.Proof.KI.Base
public import proofs.«01_k».proof.Proof.KI.Rows
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048x256 .f32) (harg3 : arg3.IsWhole)
  (arg4 : Memref sig .tc .vmem S8x256 .f32) (harg4 : arg4.IsWhole)
  (arg5 : Memref sig .tc .vmem S8x256 .f32) (harg5 : arg5.IsWhole)
  (arg6 : Memref sig .tc .vmem S256x256 .f32) (harg6 : arg6.IsWhole)
  (arg7 : Memref sig .tc .vmem S1x3 .f32) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S1x256 .f32) (harg10 : arg10.IsWhole)
  (arg11 : Memref sig .tc .vmem S256x1 .f32) (harg11 : arg11.IsWhole)
  (arg12 : Memref sig .tc .vmem S256x256 .f32) (harg12 : arg12.IsWhole)
  (arg13 : Memref sig .tc .vmem S2x8 .f32) (harg13 : arg13.IsWhole)
  (arg14 : Memref sig .tc .vmem S2048x256 .bf16) (harg14 : arg14.IsWhole)
  (arg15 : Memref sig .tc .vmem S8x2048x256 .f32) (harg15 : arg15.IsWhole)
  (arg16 : Memref sig .tc .vmem S8x16x128 .f32) (harg16 : arg16.IsWhole)
  (arg17 : Memref sig .tc .vmem S8x128 .f32) (harg17 : arg17.IsWhole)
  (arg18 : Memref sig .tc .vmem S8x128 .f32) (harg18 : arg18.IsWhole)
  (x0 : Vec F S1x512x2048 .f32) (x1 : Vec F S1x2048x256 .f32) (x2 : Vec F S8x256 .f32) (x3 : Vec F S8x256 .f32) (x4 : Vec F S256x256 .f32) (x5 : Vec F S1x3 .f32) (x6 : Vec F S256x256 .f32) (x7 : Vec F S256x256 .f32) (x8 : Vec F S1x256 .f32) (x9 : Vec F S256x1 .f32) (x10 : Vec F S256x256 .f32)
  (xs0 : Vec F S2048x256 .bf16) (xs1 : Vec F S8x2048x256 .f32) (xs2 : Vec F S8x16x128 .f32) (xs3 : Vec F S8x128 .f32) (xs4 : Vec F S8x128 .f32)
set_option maxHeartbeats 4000000 in
/-- The last point of the grid: besides what every last tile does, the body stores the two rows of discriminator scores. -/
theorem run_end (hc1 : ¬ k0_cond1 i = 1#1) (hc2 : k0_cond2 i = 1#1) (hc3 : k0_cond3 i = 1#1) (d : Vec F S2x8 .f32) (E : Set ℕ) (K : PUnit → sProp 𝕄) :
    iprop(insOwn c arg2 arg3 arg4 arg5 arg6 arg7 arg8 arg9 arg10 arg11 arg12 x0 x1 x2 x3 x4 x5 x6 x7 x8 x9 x10 ∗ owns (c : Thread nD τ) arg13 fullShare d ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4
        ∗ (iprop(insOwn c arg2 arg3 arg4 arg5 arg6 arg7 arg8 arg9 arg10 arg11 arg12 x0 x1 x2 x3 x4 x5 x6 x7 x8 x9 x10 ∗ owns (c : Thread nD τ) arg13 fullShare (VecWindow.put (VecWindow.put d ![0, 0] S1x8.size (lastRows (VecWindow.put xs1 (k0_off1 i) S1x512x256.size (k0_pay75 x0 xs0)) (VecWindow.put xs2 (k0_off4 i) S1x16x128.size (k0_pay81 (VecWindow.window (VecWindow.put xs1 (k0_off1 i) S1x512x256.size (k0_pay75 x0 xs0)) (k0_off2 i) S1x2048x256.size (k0_off2_inb i hc2)) x9)) (VecWindow.put xs3 (k0_off3 i) S1x128.size (k0_pay79 (VecWindow.window (VecWindow.put xs1 (k0_off1 i) S1x512x256.size (k0_pay75 x0 xs0)) (k0_off2 i) S1x2048x256.size (k0_off2_inb i hc2)))) (VecWindow.put xs4 (k0_off3 i) S1x128.size (k0_pay80 (VecWindow.window (VecWindow.put xs1 (k0_off1 i) S1x512x256.size (k0_pay75 x0 xs0)) (k0_off2 i) S1x2048x256.size (k0_off2_inb i hc2)))) x2 x3 x5 x6 x7 x8 x10).1) ![1, 0] S1x8.size (lastRows (VecWindow.put xs1 (k0_off1 i) S1x512x256.size (k0_pay75 x0 xs0)) (VecWindow.put xs2 (k0_off4 i) S1x16x128.size (k0_pay81 (VecWindow.window (VecWindow.put xs1 (k0_off1 i) S1x512x256.size (k0_pay75 x0 xs0)) (k0_off2 i) S1x2048x256.size (k0_off2_inb i hc2)) x9)) (VecWindow.put xs3 (k0_off3 i) S1x128.size (k0_pay79 (VecWindow.window (VecWindow.put xs1 (k0_off1 i) S1x512x256.size (k0_pay75 x0 xs0)) (k0_off2 i) S1x2048x256.size (k0_off2_inb i hc2)))) (VecWindow.put xs4 (k0_off3 i) S1x128.size (k0_pay80 (VecWindow.window (VecWindow.put xs1 (k0_off1 i) S1x512x256.size (k0_pay75 x0 xs0)) (k0_off2 i) S1x2048x256.size (k0_off2_inb i hc2)))) x2 x3 x5 x6 x7 x8 x10).2) ∗ owns (c : Thread nD τ) arg14 fullShare xs0 ∗ owns (c : Thread nD τ) arg15 fullShare (VecWindow.put xs1 (k0_off1 i) S1x512x256.size (k0_pay75 x0 xs0)) ∗ owns (c : Thread nD τ) arg16 fullShare (VecWindow.put xs2 (k0_off4 i) S1x16x128.size (k0_pay81 (VecWindow.window (VecWindow.put xs1 (k0_off1 i) S1x512x256.size (k0_pay75 x0 xs0)) (k0_off2 i) S1x2048x256.size (k0_off2_inb i hc2)) x9)) ∗ owns (c : Thread nD τ) arg17 fullShare (VecWindow.put xs3 (k0_off3 i) S1x128.size (k0_pay79 (VecWindow.window (VecWindow.put xs1 (k0_off1 i) S1x512x256.size (k0_pay75 x0 xs0)) (k0_off2 i) S1x2048x256.size (k0_off2_inb i hc2)))) ∗ owns (c : Thread nD τ) arg18 fullShare (VecWindow.put xs4 (k0_off3 i) S1x128.size (k0_pay80 (VecWindow.window (VecWindow.put xs1 (k0_off1 i) S1x512x256.size (k0_pay75 x0 xs0)) (k0_off2 i) S1x2048x256.size (k0_off2_inb i hc2))))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold insOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3; obtain rfl := harg18.eq_unread hfs4
  sl_exec (disch := first | sl_exact hc1 | sl_exact hc2 | sl_exact hc3)
  sl_step
  iapply Hk
  isplitl [H0 H1 H2 H3 H4 H5 H6 H7 H8 H9 H10]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10
  isplitl [H11]
  · iexists _; isplitr
    swap; · iexact H11
    ipureintro
    delta run_end.sl.HS1_1 run_end.sl.HS2_1 run_end.sl.HS3_1 run_end.sl.HS4_1 run_end.sl.cst_81 run_end.sl.r run_end.sl.r_1 run_end.sl.r_10 run_end.sl.r_11 run_end.sl.r_12 run_end.sl.r_13 run_end.sl.r_14 run_end.sl.r_15 run_end.sl.r_16 run_end.sl.r_17 run_end.sl.r_18 run_end.sl.r_19 run_end.sl.r_2 run_end.sl.r_20 run_end.sl.r_21 run_end.sl.r_22 run_end.sl.r_23 run_end.sl.r_24 run_end.sl.r_25 run_end.sl.r_26 run_end.sl.r_27 run_end.sl.r_28 run_end.sl.r_29 run_end.sl.r_3 run_end.sl.r_30 run_end.sl.r_31 run_end.sl.r_32 run_end.sl.r_33 run_end.sl.r_34 run_end.sl.r_35 run_end.sl.r_36 run_end.sl.r_37 run_end.sl.r_38 run_end.sl.r_39 run_end.sl.r_4 run_end.sl.r_40 run_end.sl.r_41 run_end.sl.r_42 run_end.sl.r_43 run_end.sl.r_44 run_end.sl.r_45 run_end.sl.r_46 run_end.sl.r_47 run_end.sl.r_48 run_end.sl.r_49 run_end.sl.r_5 run_end.sl.r_50 run_end.sl.r_51 run_end.sl.r_52 run_end.sl.r_53 run_end.sl.r_54 run_end.sl.r_55 run_end.sl.r_56 run_end.sl.r_6 run_end.sl.r_7 run_end.sl.r_8 run_end.sl.r_9 run_end.sl.v170 run_end.sl.v184 run_end.sl.v186 run_end.sl.v257 run_end.sl.v271 run_end.sl.v273 run_end.sl.v344 run_end.sl.v358 run_end.sl.v360 run_end.sl.v40 run_end.sl.v431 run_end.sl.v445 run_end.sl.v447 run_end.sl.v47 run_end.sl.v518 run_end.sl.v532 run_end.sl.v534 run_end.sl.v605 run_end.sl.v619 run_end.sl.v621 run_end.sl.v692 run_end.sl.v706 run_end.sl.v708 run_end.sl.v83 run_end.sl.v97 run_end.sl.v99
    simp only [lastRows, picks, View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS0]
  · iexists _; isplitr; · ipureintro; exact harg14.read_unread _
    iexact HS0
  isplitl [HS1]
  · iexists _; isplitr
    swap; · iexact HS1
    ipureintro
    try delta run_end.sl.HS1_1 run_end.sl.HS2_1 run_end.sl.HS3_1 run_end.sl.HS4_1
    try delta run_end.sl.HS1_1
    simp only [View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS2]
  · iexists _; isplitr
    swap; · iexact HS2
    ipureintro
    try delta run_end.sl.HS1_1 run_end.sl.HS2_1 run_end.sl.HS3_1 run_end.sl.HS4_1
    try delta run_end.sl.HS1_1
    simp only [View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  isplitl [HS3]
  · iexists _; isplitr
    swap; · iexact HS3
    ipureintro
    try delta run_end.sl.HS1_1 run_end.sl.HS2_1 run_end.sl.HS3_1 run_end.sl.HS4_1
    try delta run_end.sl.HS1_1
    simp only [View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]
  iexists _; isplitr
  swap; · iexact HS4
  · ipureintro
    try delta run_end.sl.HS1_1 run_end.sl.HS2_1 run_end.sl.HS3_1 run_end.sl.HS4_1
    try delta run_end.sl.HS1_1
    simp only [View.read_writes_cons_put _ _ _ _ _ rfl, View.writes_nil, readAt_window, window_full3, window_full2, put_full2, hf0, hf1, hf2, hf3, hf4, hf5, hf6, hf7, hf8, hf9, hf10, hf11, hfs0, hfs1, hfs2, hfs3, hfs4]

end Cert.KernelIdeal.Hand

end
-- ==== Proof.KI.Body.lean ====
module

public import proofs.«01_k».proof.Proof.KI.Inv
public import proofs.«01_k».proof.Proof.KI.RunA
public import proofs.«01_k».proof.Proof.KI.RunB
public import proofs.«01_k».proof.Proof.KI.RunC
public import proofs.«01_k».proof.Proof.KI.RunD
public import Idealize.ShloMosaic.Lib.Claim
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point that is not the last tile of its graph stores one tile. -/
theorem Done.mid {c : Dev nD} (t : Fin cfg0.N) (h3 : t.val % 4 ≠ 3) {xw : Vec F S2048x256 .bf16} {e : Vec F S8x2048x256 .f32} {s : Vec F S8x16x128 .f32} {mu sg : Vec F S8x128 .f32}
    (H : Done m c t.val xw e s mu sg) (hx : xw = xwAt m c (pt (4 * (t.val / 4)) (by have := lt_of_lt_of_eq t.isLt N_0; omega))) :
    Done m c (t.val + 1) xw (VecWindow.put e (k0_off1 (grid0.coords t)) S1x512x256.size (k0_pay75 (iblk m c 0 t) xw)) s mu sg where
  xw_eq := fun h _ => hx.trans (congrArg (xwAt m c) (Fin.ext (by show 4 * (t.val / 4) = 4 * ((t.val + 1) / 4); omega)))
  e_eq := tile_step m c t H.e_eq _ (by rw [hx])
  s_eq := fun a b d h => H.s_eq a b d (by omega)
  mu_eq := fun a d h => H.mu_eq a d (by omega)
  sg_eq := fun a d h => H.sg_eq a d (by omega)

/-- A point that is the last tile of its graph stores the tile, the scores and the moments. -/
theorem Done.last {c : Dev nD} (t : Fin cfg0.N) (hc2 : k0_cond2 (grid0.coords t) = 1#1) {xw : Vec F S2048x256 .bf16} {e : Vec F S8x2048x256 .f32} {s : Vec F S8x16x128 .f32} {mu sg : Vec F S8x128 .f32}
    (H : Done m c t.val xw e s mu sg) {e' : Vec F S8x2048x256 .f32} (he : e' = VecWindow.put e (k0_off1 (grid0.coords t)) S1x512x256.size (k0_pay75 (iblk m c 0 t) xw)) :
    Done m c (t.val + 1) xw e'
      (VecWindow.put s (k0_off4 (grid0.coords t)) S1x16x128.size (k0_pay81 (VecWindow.window e' (k0_off2 (grid0.coords t)) S1x2048x256.size (k0_off2_inb (grid0.coords t) hc2)) (iblk m c 9 t)))
      (VecWindow.put mu (k0_off3 (grid0.coords t)) S1x128.size (k0_pay79 (VecWindow.window e' (k0_off2 (grid0.coords t)) S1x2048x256.size (k0_off2_inb (grid0.coords t) hc2))))
      (VecWindow.put sg (k0_off3 (grid0.coords t)) S1x128.size (k0_pay80 (VecWindow.window e' (k0_off2 (grid0.coords t)) S1x2048x256.size (k0_off2_inb (grid0.coords t) hc2)))) := by
  have h3 := (cond2_iff t).mp hc2
  have ht := lt_of_lt_of_eq t.isLt N_0
  have hx := H.xw_eq ht (by omega)
  have he' := tile_step m c t H.e_eq _ (congrArg (k0_pay75 (iblk m c 0 t)) hx)
  rw [← he] at he'
  rw [slab_eq m c t h3 (by omega) he']
  exact { xw_eq := fun h hne => absurd (by omega) hne
          e_eq := he'
          s_eq := score_step m c t h3 (by omega) H.s_eq _ rfl
          mu_eq := row_step t h3 (by omega) H.mu_eq _ fun _ => rfl
          sg_eq := row_step t h3 (by omega) H.sg_eq _ fun _ => rfl }

/-- After every point the scratch arrays are known throughout. -/
theorem Done.all {c : Dev nD} {xw : Vec F S2048x256 .bf16} {e : Vec F S8x2048x256 .f32} {s : Vec F S8x16x128 .f32} {mu sg : Vec F S8x128 .f32} (H : Done m c 32 xw e s mu sg) :
    e = actAll m c ∧ s = scoreAll m c ∧ mu = meanAll m c ∧ sg = devAll m c := by
  refine ⟨?_, ?_, ?_, ?_⟩ <;> funext j
  · rw [eq_ix3 j]; exact H.e_eq _ _ _ (by have h0 : (j 0).val < 8 := (j 0).isLt; have h1 : (j 1).val < 2048 := (j 1).isLt; omega)
  · rw [eq_ix3 j]; exact H.s_eq _ _ _ (by have h0 : (j 0).val < 8 := (j 0).isLt; omega)
  · rw [eq_ix2 j]; exact H.mu_eq _ _ (by have h0 : (j 0).val < 8 := (j 0).isLt; omega)
  · rw [eq_ix2 j]; exact H.sg_eq _ _ (by have h0 : (j 0).val < 8 := (j 0).isLt; omega)

/-- The two stores of the last point leave the output block. -/
theorem out_eq (c : Dev nD) (d : Vec F S2x8 .f32) {r : Vec F S1x8 .f32 × Vec F S1x8 .f32} (hr : r = outRows m c) :
    VecWindow.put (VecWindow.put d ![0, 0] S1x8.size r.1) ![1, 0] S1x8.size r.2 = outBlk m c := by
  subst hr
  funext j
  rw [eq_ix2 j]
  generalize j 0 = a
  generalize j 1 = b
  refine (put2_apply (a := 2) (b := 8) _ 1 0 1 8 (outRows m c).2 a b).trans ?_
  have ha : a.val < 2 := a.isLt
  have hb : b.val < 8 := b.isLt
  unfold outBlk
  by_cases h : a.val = 0
  · rw [dif_neg (by omega)]
    refine (put2_apply (a := 2) (b := 8) d 0 0 1 8 (outRows m c).1 a b).trans ?_
    rw [dif_pos (by omega)]
    refine Eq.trans (congrArg (outRows m c).1 ?_) (if_pos h).symm
    funext l; fin_cases l
    · exact Fin.ext (by show a.val - 0 = 0; omega)
    · exact Fin.ext (by show b.val - 0 = b.val; omega)
  · rw [dif_pos (by omega)]
    refine Eq.trans (congrArg (outRows m c).2 ?_) (if_neg h).symm
    funext l; fin_cases l
    · exact Fin.ext (by show a.val - 1 = 0; omega)
    · exact Fin.ext (by show b.val - 0 = b.val; omega)

/-- At the last point the two stored rows are the output's. -/
theorem rows_last (c : Dev nD) (t : Fin cfg0.N) (ht : t = pt 31 (by norm_num)) {e : Vec F S8x2048x256 .f32} {s : Vec F S8x16x128 .f32} {mu sg : Vec F S8x128 .f32}
    (ee : e = actAll m c) (es : s = scoreAll m c) (em : mu = meanAll m c) (ev : sg = devAll m c) :
    lastRows e s mu sg (iblk m c 2 t) (iblk m c 3 t) (iblk m c 5 t) (iblk m c 6 t) (iblk m c 7 t) (iblk m c 8 t) (iblk m c 10 t) = outRows m c := by
  subst ht ee es em ev; rfl

/-- The invariant between points: the scratch arrays hold what is done, and the generator register some state. -/
def PhiN (c : Dev nD) (n : ℕ) : sProp 𝕄 :=
  iprop((∃ xw e s mu sg, ⌜Done m c n xw e s mu sg⌝ ∗ owns (c : Thread nD τ) sc0 fullShare xw ∗ owns (c : Thread nD τ) sc1 fullShare e ∗ owns (c : Thread nD τ) sc2 fullShare s
    ∗ owns (c : Thread nD τ) sc3 fullShare mu ∗ owns (c : Thread nD τ) sc4 fullShare sg) ∗ (∃ r, prngReg c r))

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk m c
  Φ t := PhiN m c t.val
  q _ := fullShare
  owed _ := 0

/-- An argument's array starts at its launch contents. -/
theorem A_eq (c : Dev nD) (w : Fin cfg0.W) : (dats m 0 c).A w = V m c (Pipeline.arrRef spec0 w) := by
  dsimp only [dats]

/-- Before a point the invariant is the one of the points done so far. -/
theorem Phi_castSucc (c : Dev nD) (t : Fin cfg0.N) : (dats m 0 c).Φ t.castSucc = PhiN m c t.val := by
  dsimp only [dats]; rfl
/-- After a point the invariant is the next one. -/
theorem Phi_succ (c : Dev nD) (t : Fin cfg0.N) : (dats m 0 c).Φ t.succ = PhiN m c (t.val + 1) := by
  dsimp only [dats]; rfl

/-- After a point the first window's buffer holds this. -/
theorem after_0 (c : Dev nD) (t : Fin cfg0.N) : (dats m 0 c).after 0 t = iblk m c 0 t := by dsimp only [dats]
/-- After a point the second window's buffer holds this. -/
theorem after_1 (c : Dev nD) (t : Fin cfg0.N) : (dats m 0 c).after 1 t = iblk m c 1 t := by dsimp only [dats]
/-- After a point the third window's buffer holds this. -/
theorem after_2 (c : Dev nD) (t : Fin cfg0.N) : (dats m 0 c).after 2 t = iblk m c 2 t := by dsimp only [dats]
/-- After a point the fourth window's buffer holds this. -/
theorem after_3 (c : Dev nD) (t : Fin cfg0.N) : (dats m 0 c).after 3 t = iblk m c 3 t := by dsimp only [dats]
/-- After a point the fifth window's buffer holds this. -/
theorem after_4 (c : Dev nD) (t : Fin cfg0.N) : (dats m 0 c).after 4 t = iblk m c 4 t := by dsimp only [dats]
/-- After a point the sixth window's buffer holds this. -/
theorem after_5 (c : Dev nD) (t : Fin cfg0.N) : (dats m 0 c).after 5 t = iblk m c 5 t := by dsimp only [dats]
/-- After a point the seventh window's buffer holds this. -/
theorem after_6 (c : Dev nD) (t : Fin cfg0.N) : (dats m 0 c).after 6 t = iblk m c 6 t := by dsimp only [dats]
/-- After a point the eighth window's buffer holds this. -/
theorem after_7 (c : Dev nD) (t : Fin cfg0.N) : (dats m 0 c).after 7 t = iblk m c 7 t := by dsimp only [dats]
/-- After a point the ninth window's buffer holds this. -/
theorem after_8 (c : Dev nD) (t : Fin cfg0.N) : (dats m 0 c).after 8 t = iblk m c 8 t := by dsimp only [dats]
/-- After a point the tenth window's buffer holds this. -/
theorem after_9 (c : Dev nD) (t : Fin cfg0.N) : (dats m 0 c).after 9 t = iblk m c 9 t := by dsimp only [dats]
/-- After a point the eleventh window's buffer holds this. -/
theorem after_10 (c : Dev nD) (t : Fin cfg0.N) : (dats m 0 c).after 10 t = iblk m c 10 t := by dsimp only [dats]
/-- After a point the twelfth window's buffer holds this. -/
theorem after_11 (c : Dev nD) (t : Fin cfg0.N) : (dats m 0 c).after 11 t = outBlk m c := by dsimp only [dats]

/-- Before a point the first window's buffer holds its block. -/
theorem before_0 (c : Dev nD) (t : Fin cfg0.N) (d) : (dats m 0 c).before 0 t d = iblk m c 0 t := before0_0_of m (dats m 0 c) (A_eq m c 0) (after_0 m c) t d
/-- Before a point the second window's buffer holds its block. -/
theorem before_1 (c : Dev nD) (t : Fin cfg0.N) (d) : (dats m 0 c).before 1 t d = iblk m c 1 t := before0_1_of m (dats m 0 c) (A_eq m c 1) (after_1 m c) t d
/-- Before a point the third window's buffer holds its block. -/
theorem before_2 (c : Dev nD) (t : Fin cfg0.N) (d) : (dats m 0 c).before 2 t d = iblk m c 2 t := before0_2_of m (dats m 0 c) (A_eq m c 2) (after_2 m c) t d
/-- Before a point the fourth window's buffer holds its block. -/
theorem before_3 (c : Dev nD) (t : Fin cfg0.N) (d) : (dats m 0 c).before 3 t d = iblk m c 3 t := before0_3_of m (dats m 0 c) (A_eq m c 3) (after_3 m c) t d
/-- Before a point the fifth window's buffer holds its block. -/
theorem before_4 (c : Dev nD) (t : Fin cfg0.N) (d) : (dats m 0 c).before 4 t d = iblk m c 4 t := before0_4_of m (dats m 0 c) (A_eq m c 4) (after_4 m c) t d
/-- Before a point the sixth window's buffer holds its block. -/
theorem before_5 (c : Dev nD) (t : Fin cfg0.N) (d) : (dats m 0 c).before 5 t d = iblk m c 5 t := before0_5_of m (dats m 0 c) (A_eq m c 5) (after_5 m c) t d
/-- Before a point the seventh window's buffer holds its block. -/
theorem before_6 (c : Dev nD) (t : Fin cfg0.N) (d) : (dats m 0 c).before 6 t d = iblk m c 6 t := before0_6_of m (dats m 0 c) (A_eq m c 6) (after_6 m c) t d
/-- Before a point the eighth window's buffer holds its block. -/
theorem before_7 (c : Dev nD) (t : Fin cfg0.N) (d) : (dats m 0 c).before 7 t d = iblk m c 7 t := before0_7_of m (dats m 0 c) (A_eq m c 7) (after_7 m c) t d
/-- Before a point the ninth window's buffer holds its block. -/
theorem before_8 (c : Dev nD) (t : Fin cfg0.N) (d) : (dats m 0 c).before 8 t d = iblk m c 8 t := before0_8_of m (dats m 0 c) (A_eq m c 8) (after_8 m c) t d
/-- Before a point the tenth window's buffer holds its block. -/
theorem before_9 (c : Dev nD) (t : Fin cfg0.N) (d) : (dats m 0 c).before 9 t d = iblk m c 9 t := before0_9_of m (dats m 0 c) (A_eq m c 9) (after_9 m c) t d
/-- Before a point the eleventh window's buffer holds its block. -/
theorem before_10 (c : Dev nD) (t : Fin cfg0.N) (d) : (dats m 0 c).before 10 t d = iblk m c 10 t := before0_10_of m (dats m 0 c) (A_eq m c 10) (after_10 m c) t d

/-- What a point leaves of the first window's buffer. -/
theorem leaves_0 (c : Dev nD) (t : Fin cfg0.N) : (dats m 0 c).leavesExact 0 t = owns (c : Thread nD τ) (ms0 t) fullShare (iblk m c 0 t) := by
  unfold Dat.leavesExact; rw [show cfg0.idle _ (grid0.coords t) = false from rfl, after_0]
/-- What a point leaves of the second window's buffer. -/
theorem leaves_1 (c : Dev nD) (t : Fin cfg0.N) : (dats m 0 c).leavesExact 1 t = owns (c : Thread nD τ) (ms1 t) fullShare (iblk m c 1 t) := by
  unfold Dat.leavesExact; rw [show cfg0.idle _ (grid0.coords t) = false from rfl, after_1]
/-- What a point leaves of the third window's buffer. -/
theorem leaves_2 (c : Dev nD) (t : Fin cfg0.N) : (dats m 0 c).leavesExact 2 t = owns (c : Thread nD τ) (ms2 t) fullShare (iblk m c 2 t) := by
  unfold Dat.leavesExact; rw [show cfg0.idle _ (grid0.coords t) = false from rfl, after_2]
/-- What a point leaves of the fourth window's buffer. -/
theorem leaves_3 (c : Dev nD) (t : Fin cfg0.N) : (dats m 0 c).leavesExact 3 t = owns (c : Thread nD τ) (ms3 t) fullShare (iblk m c 3 t) := by
  unfold Dat.leavesExact; rw [show cfg0.idle _ (grid0.coords t) = false from rfl, after_3]
/-- What a point leaves of the fifth window's buffer. -/
theorem leaves_4 (c : Dev nD) (t : Fin cfg0.N) : (dats m 0 c).leavesExact 4 t = owns (c : Thread nD τ) (ms4 t) fullShare (iblk m c 4 t) := by
  unfold Dat.leavesExact; rw [show cfg0.idle _ (grid0.coords t) = false from rfl, after_4]
/-- What a point leaves of the sixth window's buffer. -/
theorem leaves_5 (c : Dev nD) (t : Fin cfg0.N) : (dats m 0 c).leavesExact 5 t = owns (c : Thread nD τ) (ms5 t) fullShare (iblk m c 5 t) := by
  unfold Dat.leavesExact; rw [show cfg0.idle _ (grid0.coords t) = false from rfl, after_5]
/-- What a point leaves of the seventh window's buffer. -/
theorem leaves_6 (c : Dev nD) (t : Fin cfg0.N) : (dats m 0 c).leavesExact 6 t = owns (c : Thread nD τ) (ms6 t) fullShare (iblk m c 6 t) := by
  unfold Dat.leavesExact; rw [show cfg0.idle _ (grid0.coords t) = false from rfl, after_6]
/-- What a point leaves of the eighth window's buffer. -/
theorem leaves_7 (c : Dev nD) (t : Fin cfg0.N) : (dats m 0 c).leavesExact 7 t = owns (c : Thread nD τ) (ms7 t) fullShare (iblk m c 7 t) := by
  unfold Dat.leavesExact; rw [show cfg0.idle _ (grid0.coords t) = false from rfl, after_7]
/-- What a point leaves of the ninth window's buffer. -/
theorem leaves_8 (c : Dev nD) (t : Fin cfg0.N) : (dats m 0 c).leavesExact 8 t = owns (c : Thread nD τ) (ms8 t) fullShare (iblk m c 8 t) := by
  unfold Dat.leavesExact; rw [show cfg0.idle _ (grid0.coords t) = false from rfl, after_8]
/-- What a point leaves of the tenth window's buffer. -/
theorem leaves_9 (c : Dev nD) (t : Fin cfg0.N) : (dats m 0 c).leavesExact 9 t = owns (c : Thread nD τ) (ms9 t) fullShare (iblk m c 9 t) := by
  unfold Dat.leavesExact; rw [show cfg0.idle _ (grid0.coords t) = false from rfl, after_9]
/-- What a point leaves of the eleventh window's buffer. -/
theorem leaves_10 (c : Dev nD) (t : Fin cfg0.N) : (dats m 0 c).leavesExact 10 t = owns (c : Thread nD τ) (ms10 t) fullShare (iblk m c 10 t) := by
  unfold Dat.leavesExact; rw [show cfg0.idle _ (grid0.coords t) = false from rfl, after_10]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 25600000 in
/-- The body at any point: the case the point is in says which run applies, and the run keeps the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl, Phi_castSucc, Phi_succ]
  simp only [leaves_0, leaves_1, leaves_2, leaves_3, leaves_4, leaves_5, leaves_6, leaves_7, leaves_8, leaves_9, leaves_10]
  have hN : t.val < 32 := lt_of_lt_of_eq t.isLt N_0
  unfold PhiN
  by_cases h1 : k0_cond1 (grid0.coords t) = 1#1
  · have h1' := (cond1_iff t).mp h1
    have h2 : ¬ k0_cond2 (grid0.coords t) = 1#1 := fun h => by have := (cond2_iff t).mp h; omega
    have h3 : ¬ k0_cond3 (grid0.coords t) = 1#1 := fun h => by have := (cond3_iff t).mp h; omega
    rw [Dat.leavesExact_idle (dats m 0 c) 11 t (idle_out t h3) (noFlush_out t h3)]
    iintro ⟨⟨⟨%xw, %e, %s, %mu, %sg, %HD, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ (hs0 t) _ (hs1 t) _ (hs2 t) _ (hs3 t) _ (hs4 t) _ (hs5 t) _ (hs6 t) _ (hs7 t) _ (hs8 t) _ (hs9 t) _ (hs10 t) _ (hs11 t) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ h1 h2 h3 _ _ _)
    isplitl [H0 H1 H2 H3 H4 H5 H6 H7 H8 H9 H10]
    · unfold insOwn
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [HS0]; · iexact HS0
    isplitl [HS1]; · iexact HS1
    isplitl [HS2]; · iexact HS2
    isplitl [HS3]; · iexact HS3
    isplitl [HS4]; · iexact HS4
    iintro ⟨Hi, H11, HS0, HS1, HS2, HS3, HS4⟩
    unfold insOwn
    icases Hi with ⟨H0, H1, H2, H3, H4, H5, H6, H7, H8, H9, H10⟩
    isplitl [HS0 HS1 HS2 HS3 HS4 Hg]
    · isplitr [Hg]
      · iexists _; iexists _; iexists _; iexists _; iexists _
        isplitr
        · ipureintro
          exact Done.mid m t (by omega) ⟨fun _ h => absurd h1' h, HD.e_eq, HD.s_eq, HD.mu_eq, HD.sg_eq⟩ (congrArg (fun p => xwAt m c p) (Fin.ext (by show t.val = 4 * (t.val / 4); omega) : t = pt (4 * (t.val / 4)) (by omega)))
        isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · have h1' : t.val % 4 ≠ 0 := fun h => h1 ((cond1_iff t).mpr h)
    by_cases h2 : k0_cond2 (grid0.coords t) = 1#1
    · by_cases h3 : k0_cond3 (grid0.coords t) = 1#1
      · have h3' := (cond3_iff t).mp h3
        rw [show (dats m 0 c).leavesExact 11 t = owns (c : Thread nD τ) (ms11 t) fullShare (outBlk m c) from by
          unfold Dat.leavesExact; rw [show cfg0.idle 11 (grid0.coords t) = false from live_out t h3, after_11]]
        iintro ⟨⟨⟨%xw, %e, %s, %mu, %sg, %HD, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_end c (grid0.coords t) _ (hs0 t) _ (hs1 t) _ (hs2 t) _ (hs3 t) _ (hs4 t) _ (hs5 t) _ (hs6 t) _ (hs7 t) _ (hs8 t) _ (hs9 t) _ (hs10 t) _ (hs11 t) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ h1 h2 h3 _ _ _)
        isplitl [H0 H1 H2 H3 H4 H5 H6 H7 H8 H9 H10]
        · unfold insOwn
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        isplitl [H11]; · iexact H11
        isplitl [HS0]; · iexact HS0
        isplitl [HS1]; · iexact HS1
        isplitl [HS2]; · iexact HS2
        isplitl [HS3]; · iexact HS3
        isplitl [HS4]; · iexact HS4
        iintro ⟨Hi, H11, HS0, HS1, HS2, HS3, HS4⟩
        have HE := Done.last m t h2 HD rfl
        have ht : t = pt 31 (by norm_num) := Fin.ext (by show t.val = 31; omega)
        obtain ⟨ee, es, em, ev⟩ := Done.all m ((show t.val + 1 = 32 by omega) ▸ HE)
        unfold insOwn
        icases Hi with ⟨H0, H1, H2, H3, H4, H5, H6, H7, H8, H9, H10⟩
        isplitl [HS0 HS1 HS2 HS3 HS4 Hg]
        · isplitr [Hg]
          · iexists _; iexists _; iexists _; iexists _; iexists _
            isplitr
            · ipureintro
              exact HE
            isplitl [HS0]; · iexact HS0
            isplitl [HS1]; · iexact HS1
            isplitl [HS2]; · iexact HS2
            isplitl [HS3]; · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        rw [← out_eq m c _ (rows_last m c t ht ee es em ev)]
        iexact H11
      · rw [Dat.leavesExact_idle (dats m 0 c) 11 t (idle_out t h3) (noFlush_out t h3)]
        iintro ⟨⟨⟨%xw, %e, %s, %mu, %sg, %HD, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_last c (grid0.coords t) _ (hs0 t) _ (hs1 t) _ (hs2 t) _ (hs3 t) _ (hs4 t) _ (hs5 t) _ (hs6 t) _ (hs7 t) _ (hs8 t) _ (hs9 t) _ (hs10 t) _ (hs11 t) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ h1 h2 h3 _ _ _)
        isplitl [H0 H1 H2 H3 H4 H5 H6 H7 H8 H9 H10]
        · unfold insOwn
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        isplitl [H11]; · iexact H11
        isplitl [HS0]; · iexact HS0
        isplitl [HS1]; · iexact HS1
        isplitl [HS2]; · iexact HS2
        isplitl [HS3]; · iexact HS3
        isplitl [HS4]; · iexact HS4
        iintro ⟨Hi, H11, HS0, HS1, HS2, HS3, HS4⟩
        unfold insOwn
        icases Hi with ⟨H0, H1, H2, H3, H4, H5, H6, H7, H8, H9, H10⟩
        isplitl [HS0 HS1 HS2 HS3 HS4 Hg]
        · isplitr [Hg]
          · iexists _; iexists _; iexists _; iexists _; iexists _
            isplitr
            · ipureintro
              exact Done.last m t h2 HD rfl
            isplitl [HS0]; · iexact HS0
            isplitl [HS1]; · iexact HS1
            isplitl [HS2]; · iexact HS2
            isplitl [HS3]; · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
    · have h2' : t.val % 4 ≠ 3 := fun h => h2 ((cond2_iff t).mpr h)
      have h3 : ¬ k0_cond3 (grid0.coords t) = 1#1 := fun h => by have := (cond3_iff t).mp h; omega
      rw [Dat.leavesExact_idle (dats m 0 c) 11 t (idle_out t h3) (noFlush_out t h3)]
      iintro ⟨⟨⟨%xw, %e, %s, %mu, %sg, %HD, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c (grid0.coords t) _ (hs0 t) _ (hs1 t) _ (hs2 t) _ (hs3 t) _ (hs4 t) _ (hs5 t) _ (hs6 t) _ (hs7 t) _ (hs8 t) _ (hs9 t) _ (hs10 t) _ (hs11 t) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ h1 h2 h3 _ _ _)
      isplitl [H0 H1 H2 H3 H4 H5 H6 H7 H8 H9 H10]
      · unfold insOwn
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexact H11
      isplitl [HS0]; · iexact HS0
      isplitl [HS1]; · iexact HS1
      isplitl [HS2]; · iexact HS2
      isplitl [HS3]; · iexact HS3
      isplitl [HS4]; · iexact HS4
      iintro ⟨Hi, H11, HS0, HS1, HS2, HS3, HS4⟩
      unfold insOwn
      icases Hi with ⟨H0, H1, H2, H3, H4, H5, H6, H7, H8, H9, H10⟩
      isplitl [HS0 HS1 HS2 HS3 HS4 Hg]
      · isplitr [Hg]
        · iexists _; iexists _; iexists _; iexists _; iexists _
          isplitr
          · ipureintro
            exact Done.mid m t h2' HD (HD.xw_eq hN h1')
          isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- What a call of the body runs is the body at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over gives the invariant before the first point. -/
theorem hin (c : Dev nD) : Pipeline.ΦA spec0 c ⊢ (dats m 0 c).Φ 0 := by
  rw [show (dats m 0 c).Φ 0 = PhiN m c 0 from rfl, PhiA_eq]
  unfold PhiN
  iintro ⟨⟨⟨%d0, HS0⟩, ⟨%d1, HS1⟩, ⟨%d2, HS2⟩, ⟨%d3, HS3⟩, ⟨%d4, HS4⟩⟩, Hg⟩
  isplitr [Hg]
  · iexists d0; iexists d1; iexists d2; iexists d3; iexists d4
    isplitr
    · ipureintro; exact Done.zero m c d0 d1 d2 d3 d4
    isplitl [HS0]; · iexact HS0
    isplitl [HS1]; · iexact HS1
    isplitl [HS2]; · iexact HS2
    isplitl [HS3]; · iexact HS3
    iexact HS4
  iexact Hg

/-- The invariant after the last point gives back what the launch handed over. -/
theorem hout (c : Dev nD) : (dats m 0 c).Φ (Fin.last cfg0.N) ⊢ Pipeline.ΦA spec0 c := by
  rw [show (dats m 0 c).Φ (Fin.last cfg0.N) = PhiN m c cfg0.N from rfl, PhiA_eq]
  unfold PhiN
  iintro ⟨⟨%d0, %d1, %d2, %d3, %d4, %HD, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
set_option maxHeartbeats 800000 in
/-- The launch: every execution ends, with the pipeline's arrays and the lines after it as the library computes them, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run's arrays, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Frames.lean ====
module

public import proofs.«01_k».proof.Defs
public import proofs.«01_k».proof.Proof.K.Body
public import proofs.«01_k».proof.Proof.KI.Body
public import proofs.«01_k».proof.Proof.Gen.ReferenceIdeal.Run

@[expose] public section

noncomputable section

namespace Cert.Proof

open Idealize.ShloMosaic Idealize.SL.Sem

/-- The kernel's frame: it runs, its arguments end unchanged and every counter is zero. -/
theorem frame_kernel : Cert.quiescent_Kernel := fun m ρ _ => Cert.Kernel.Hand.frame_main m ρ

/-- The idealized kernel's frame. -/
theorem frame_ideal : Cert.quiescent_KernelIdeal := fun m ρ _ => Cert.KernelIdeal.Hand.frame_main m ρ

/-- The reference's frame: its run writes no argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Val.Real.lean ====
module

public import Idealize.ShloMosaic.PureOps.Ideal
public import Idealize.ShloMosaic.Lib.Pointwise

@[expose] public section

set_option maxRecDepth 16384

noncomputable section

namespace Cert.Reals

open Idealize.ShloMosaic

/-- An extended real that is a real number. -/
def IsReal (x : EReal) : Prop := ∃ r : ℝ, x = (r : EReal)

/-- A real number is real. -/
theorem isReal_coe (r : ℝ) : IsReal (r : EReal) := ⟨r, rfl⟩

/-- Zero is real. -/
theorem IsReal.zero : IsReal 0 := ⟨0, rfl⟩

/-- A sum of reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type} (s : Finset ι) {f : ι → EReal} (hf : ∀ i, IsReal (f i)) : IsReal (∑ i ∈ s, f i) :=
  Finset.sum_induction f IsReal (fun _ _ => IsReal.add) IsReal.zero (fun i _ => hf i)

/-- A quotient of reals is real where the divisor is not zero. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact ⟨a * (1 / b), (EReal.coe_mul _ _).symm⟩

/-- A real number is above minus infinity. -/
theorem IsReal.bot_lt {x : EReal} (hx : IsReal x) : ⊥ < x := by
  obtain ⟨a, rfl⟩ := hx; exact EReal.bot_lt_coe a

/-- A real number less itself is zero. -/
theorem IsReal.sub_self {x : EReal} (hx : IsReal x) : x - x = 0 := by
  obtain ⟨a, rfl⟩ := hx
  rw [← EReal.coe_sub, _root_.sub_self]; rfl

/-- A value whose magnitude lies below the greatest is a real number. -/
theorem isReal_of_abs_lt {x : EReal} (h : max x (-x) < ⊤) : IsReal x := by
  induction x using EReal.rec with
  | bot => simp at h
  | coe r => exact ⟨r, rfl⟩
  | top => simp at h

/-- A sum of squares of reals is a nonnegative real. -/
theorem sum_sq {ι κ : Type} (s : Finset ι) (t : Finset κ) {f : ι → κ → EReal} (hf : ∀ i k, IsReal (f i k)) :
    ∃ r : ℝ, 0 ≤ r ∧ ∑ i ∈ s, ∑ k ∈ t, f i k * f i k = (r : EReal) := by
  obtain ⟨r, hr⟩ := IsReal.sum s (f := fun i => ∑ k ∈ t, f i k * f i k) fun i => IsReal.sum t fun k => (hf i k).mul (hf i k)
  refine ⟨r, ?_, hr⟩
  have h : (0 : EReal) ≤ ∑ i ∈ s, ∑ k ∈ t, f i k * f i k := by
    refine Finset.sum_nonneg fun i _ => Finset.sum_nonneg fun k _ => ?_
    obtain ⟨a, ha⟩ := hf i k
    rw [ha, ← EReal.coe_mul]
    exact EReal.coe_nonneg.2 (mul_self_nonneg a)
  rw [hr] at h
  exact EReal.coe_nonneg.1 h

/-- The word of the small number added to the variance. -/
theorem bits_eps : Ideal.ofBits FTy.f32 0x3727C5AC#32 = ((10995116 / 2 ^ 40 : ℝ) : EReal) := by
  simp [Ideal.ofBits, Ideal.ieee, -EReal.coe_mul]; norm_num

/-- The word of the number of activations of a graph. -/
theorem bits_count : Ideal.ofBits FTy.f32 0x49000000#32 = ((524288 : ℝ) : EReal) := by
  simp [Ideal.ofBits, Ideal.ieee, -EReal.coe_mul]; norm_num

/-- The deviation that the sum of squares gives is a positive real. -/
theorem dev_pos {q : EReal} (h : ∃ r : ℝ, 0 ≤ r ∧ q = (r : EReal)) :
    ∃ s : ℝ, 0 < s ∧ Ideal.sqrt (Ideal.div q (Ideal.ofBits FTy.f32 0x49000000#32) + Ideal.ofBits FTy.f32 0x3727C5AC#32) = (s : EReal) := by
  obtain ⟨r, hr, rfl⟩ := h
  rw [bits_eps, bits_count, Ideal.div_coe (by norm_num), ← EReal.coe_mul, ← EReal.coe_add, Ideal.sqrt_coe]
  have hp : 0 < r * (1 / 524288) + 10995116 / 2 ^ 40 := by positivity
  rw [if_neg (not_lt.2 hp.le)]
  exact ⟨_, Real.sqrt_pos.2 hp, rfl⟩

/-- Three weighted nonnegative terms divided by the weights' sum, or each weight divided first. -/
theorem mix {e0 e1 e2 : ℝ} (h0 : 0 < e0) (h1 : 0 < e1) (h2 : 0 < e2) {c0 c1 c2 : EReal} (k0 : 0 ≤ c0) (k1 : 0 ≤ c1) (k2 : 0 ≤ c2) :
    ((e0 : EReal) * c0 + e1 * c1 + e2 * c2) * Ideal.div 1 ((e0 : EReal) + e1 + e2)
      = Ideal.div e0 ((e0 : EReal) + (e1 + e2)) * c0 + Ideal.div e1 ((e0 : EReal) + (e1 + e2)) * c1 + Ideal.div e2 ((e0 : EReal) + (e1 + e2)) * c2 := by
  have hs : (e0 : EReal) + e1 + e2 = ((e0 + e1 + e2 : ℝ) : EReal) := by push_cast; rfl
  have hn : e0 + e1 + e2 ≠ 0 := by positivity
  have n0 : (0 : EReal) ≤ e0 * c0 := mul_nonneg (EReal.coe_nonneg.2 h0.le) k0
  have n1 : (0 : EReal) ≤ e1 * c1 := mul_nonneg (EReal.coe_nonneg.2 h1.le) k1
  have n2 : (0 : EReal) ≤ e2 * c2 := mul_nonneg (EReal.coe_nonneg.2 h2.le) k2
  rw [← add_assoc, hs, Ideal.div_coe hn, Ideal.div_coe hn, Ideal.div_coe hn, Ideal.div_coe hn, one_mul,
    EReal.right_distrib_of_nonneg (add_nonneg n0 n1) n2, EReal.right_distrib_of_nonneg n0 n1]
  simp only [mul_right_comm]

end Cert.Reals

end
-- ==== Proof.Val.Pre.lean ====
module

public import proofs.«01_k».proof.Proof.Val.Real
public import proofs.«01_k».proof.Pre_inputs_finite
public import Idealize.ShloMosaic.Lib.Pointwise

@[expose] public section

set_option maxRecDepth 16384

noncomputable section

namespace Cert.Pre_inputs_finite.Hand

open Cert.Pre_inputs_finite Cert.Reals
open Idealize.ShloMosaic

/-- The predicate's side conditions. -/
theorem facts : Cert.Pre_inputs_finite.Facts where
  bcast_S_S8x2048x2048 := by decide
  reducesTo_S8x2048x2048_S8x2048_d2 := by decide
  h_S_ := by decide
  bcast_S_S8x2048 := by decide
  bcast_S_S8x2048x256 := by decide
  bcast_S_S256x256 := by decide
  bcast_S_S1x3 := by decide
  bcast_S_S256 := by decide

attribute [local instance] facts

variable (g : FVec Ideal S8x2048x2048 .f32) (x : FVec Ideal S8x2048x256 .f32) (o : FVec Ideal S8x256 .f32) (w : FVec Ideal S256x256 .f32) (a : FVec Ideal S1x3 .f32)
  (cw : FVec Ideal S256x256x2 .f32) (cb sw : FVec Ideal S256 .f32) (dw : FVec Ideal S256x256 .f32)

/-- A number whose size was found below infinity is real. -/
theorem real_of_bit (x : EReal) (h : BitVec.ofBool (decide ((FloatOps.absf (F := Ideal) (φ := .f32) x : EReal) < Ideal.ofBits FTy.f32 0x7F800000#32)) = 1#1) : IsReal x := by
  have hb : (Ideal.ofBits FTy.f32 0x7F800000#32 : EReal) = ⊤ := by simp [Ideal.ofBits, Ideal.ieee]
  rw [hb] at h
  refine isReal_of_abs_lt ?_
  by_contra hn
  have hn' : ¬ (FloatOps.absf (F := Ideal) (φ := .f32) x : EReal) < ⊤ := hn
  rw [decide_eq_false hn'] at h
  exact absurd h (by decide)

variable {g x o w a cw cb sw dw}

/-- Where the predicate holds the adjacency is real. -/
theorem g_real (h : (fn (F := Ideal) g x o w a cw cb sw dw).1 = fun _ => 1#1) (b : Fin 8) (n k : Fin 2048) : IsReal (g (ix3 b n k)) := by
  refine real_of_bit _ (Eq.trans ?_ (congrFun h (ix3 b n k)))
  symm
  pointwise [fn, fn_part1]

/-- No row of the adjacency sums to zero. -/
theorem deg_ne (h : (fn (F := Ideal) g x o w a cw cb sw dw).2.1 = fun _ => 1#1) (b : Fin 8) (n : Fin 2048) : ∑ k : Fin 2048, (g (ix3 b n k) : EReal) ≠ 0 := by
  have e : (fn (F := Ideal) g x o w a cw cb sw dw).2.1 (ix2 b n) = BitVec.ofBool (decide (∑ k : Fin 2048, (g (ix3 b n k) : EReal) ≠ 0)) := by
    pointwise [fn, fn_part1]
  intro h0
  rw [h, decide_eq_false (by simpa using h0)] at e
  exact absurd (show (1#1 : BitVec 1) = BitVec.ofBool false from e) (by decide)

/-- The features are real. -/
theorem x_real (h : (fn (F := Ideal) g x o w a cw cb sw dw).2.2.1 = fun _ => 1#1) (b : Fin 8) (k : Fin 2048) (l : Fin 256) : IsReal (x (ix3 b k l)) := by
  refine real_of_bit _ (Eq.trans ?_ (congrFun h (ix3 b k l)))
  symm
  pointwise [fn, fn_part1]

/-- The propagation weights are real. -/
theorem w_real (h : (fn (F := Ideal) g x o w a cw cb sw dw).2.2.2.1 = fun _ => 1#1) (l f : Fin 256) : IsReal (w (ix2 l f)) := by
  refine real_of_bit _ (Eq.trans ?_ (congrFun h (ix2 l f)))
  symm
  pointwise [fn, fn_part1]

/-- The mixing logits are real. -/
theorem a_real (h : (fn (F := Ideal) g x o w a cw cb sw dw).2.2.2.2.1 = fun _ => 1#1) (k : Fin 3) : IsReal (a (ix2 0 k)) := by
  refine real_of_bit _ (Eq.trans ?_ (congrFun h (ix2 0 k)))
  symm
  pointwise [fn, fn_part1]

/-- The scoring weights are real. -/
theorem sw_real (h : (fn (F := Ideal) g x o w a cw cb sw dw).2.2.2.2.2 = fun _ => 1#1) (f : Fin 256) : IsReal (sw (ix1 f)) := by
  refine real_of_bit _ (Eq.trans ?_ (congrFun h (ix1 f)))
  symm
  pointwise [fn, fn_part1]

end Cert.Pre_inputs_finite.Hand

end
-- ==== Proof.Val.KPay.lean ====
module

public import proofs.«01_k».proof.Proof.KI.Rows
public import Idealize.ShloMosaic.Lib.Pointwise

@[expose] public section

set_option maxRecDepth 16384

noncomputable section

namespace Cert.KernelIdeal.Hand

open Cert.KernelIdeal.Gen
open Idealize.ShloMosaic Idealize.ShloMosaic.TcCoe

/-- The kernel's activation function: the identity above zero and the guarded quotient below. -/
noncomputable def kelu (h : EReal) : EReal :=
  if 0 < h then h else if Ideal.exp (min h 0) = 1 then min h 0
    else Ideal.div ((Ideal.exp (min h 0) - 1) * min h 0) (Ideal.log (Ideal.exp (min h 0)))

/-- The projected features, entry by entry. -/
theorem pay74_apply (x : Vec Ideal S1x2048x256 .f32) (w : Vec Ideal S256x256 .f32) (k : Fin 2048) (f : Fin 256) :
    k0_pay74 x w (ix2 k f) = ∑ l : Fin 256, x (ix3 0 k l) * w (ix2 l f) := by
  pointwise [k0_pay74]

/-- The tile of activations, entry by entry. -/
theorem pay75_apply (g : Vec Ideal S1x512x2048 .f32) (xw : Vec Ideal S2048x256 .bf16) (r : Fin 512) (f : Fin 256) :
    k0_pay75 g xw (ix3 0 r f) = kelu (∑ k : Fin 2048, Ideal.div (g (ix3 0 r k)) (∑ k' : Fin 2048, g (ix3 0 r k')) * xw (ix2 k f)) := by
  pointwise [k0_pay75]
  rfl

/-- The mean of a graph's activations. -/
theorem pay77_apply (e : Vec Ideal S1x2048x256 .f32) :
    k0_pay77 e = Ideal.div (∑ n : Fin 2048, ∑ f : Fin 256, e (ix3 0 n f)) (Ideal.ofBits .f32 0x49000000#32) := by
  pointwise [k0_pay77, k0_pay76]

/-- The deviation of a graph's activations. -/
theorem pay78_apply (e : Vec Ideal S1x2048x256 .f32) :
    k0_pay78 e = Ideal.sqrt (Ideal.div (∑ n : Fin 2048, ∑ f : Fin 256, (e (ix3 0 n f) - k0_pay77 e) * (e (ix3 0 n f) - k0_pay77 e)) (Ideal.ofBits .f32 0x49000000#32)
      + Ideal.ofBits .f32 0x3727C5AC#32) := by
  pointwise [k0_pay78, k0_pay76]
  rfl

/-- The row stored for the mean holds it in every place. -/
theorem pay79_apply (e : Vec Ideal S1x2048x256 .f32) (d : Fin 128) : k0_pay79 e (ix2 0 d) = k0_pay77 e := by
  pointwise [k0_pay79]
/-- The row stored for the deviation holds it in every place. -/
theorem pay80_apply (e : Vec Ideal S1x2048x256 .f32) (d : Fin 128) : k0_pay80 e (ix2 0 d) = k0_pay78 e := by
  pointwise [k0_pay80]

/-- The scores of a graph, laid out in rows of 128. -/
theorem pay81_apply (e : Vec Ideal S1x2048x256 .f32) (w : Vec Ideal S256x1 .f32) (r : Fin 16) (d : Fin 128) :
    k0_pay81 e w (ix3 0 r d) = ∑ f : Fin 256, Ideal.div (e (ix3 0 (⟨r.val * 128 + d.val, by omega⟩ : Fin 2048) f) - k0_pay77 e) (k0_pay78 e) * w (ix2 f 0) := by
  pointwise [k0_pay81, k0_pay76]

end Cert.KernelIdeal.Hand

end
-- ==== Proof.Val.RowGen.lean ====
module

public import proofs.«01_k».proof.Proof.KI.Rows
public import Idealize.ShloMosaic.Lib.Pointwise
public import Idealize.ShloMosaic.Lib.Pointwise

@[expose] public section

set_option maxRecDepth 16384

noncomputable section

namespace Cert.KernelIdeal.Hand

open Cert.KernelIdeal.Gen
open Idealize.ShloMosaic Idealize.ShloMosaic.TcCoe

variable {F : FTy → Type} [FloatOps F]

/-- The positions taken for graph `g`, as a column. -/
def pickCol (g : ℕ) (hg : S8x1x128.Slices ![g, 0, 0] S1x1x128) (v50 : IVec S8x1x128 32) : IVec S64x1 32 :=
  extractStridedSlice S64x1 ![0, 0] (transpose S128x1 [1, 0] (shapeCast S1x128 (extractStridedSlice S1x1x128 ![g, 0, 0] v50 hg)
    shapeCasts_S1x1x128_S1x128) transposes_S1x128_p1_0_S128x1) slices_S128x1_o0_0_S64x1

/-- The column of node numbers that the positions taken are compared with. -/
abbrev nodes : IVec S64x2048 32 := iota .tc S64x2048 32 [1] iota_S64x2048_d1_w32

/-- One graph's embedding: the three pooled branches on the taken nodes, mixed by the weights. -/
def graphRow (c0 c1 c2 iv : F .f32) (w0 w1 : FVec F S256x256 .f32) (b : FVec F S1x256 .f32) (col : IVec S64x1 32)
    (e : Vec F S1x2048x256 .f32) (mu sg : Vec F S1x1 .f32) : FVec F S1x256 .f32 :=
  k0_pay22 c1 c2 iv w0 w1 b (k0_pay19 nodes col e mu sg) (k0_pay20 nodes c0 w0 w1 b col e mu sg) (k0_pay21 nodes col e mu sg)

/-- The eight graphs' embeddings, stacked and multiplied by the discriminator's weights. -/
def prodRows (r0 r1 r2 r3 r4 r5 r6 r7 : FVec F S1x256 .f32) (dw : Vec F S256x256 .f32) : FVec F S8x256 .f32 :=
  matmul dot_S8x256_S256x256_S8x256_1_0_0_1_n_n none
    (truncf .bf16 (concatenate S8x256 0 [⟨S1x256, r0⟩, ⟨S1x256, r1⟩, ⟨S1x256, r2⟩, ⟨S1x256, r3⟩, ⟨S1x256, r4⟩, ⟨S1x256, r5⟩, ⟨S1x256, r6⟩, ⟨S1x256, r7⟩]
      concatenates_S1x256_S1x256_S1x256_S1x256_S1x256_S1x256_S1x256_S1x256_S8x256_d0) bitsLt_bf16_f32)
    (truncf .bf16 dw bitsLt_bf16_f32) (constant S8x256 .f32 0x00000000#32)

section
variable (c0 c1 c2 iv : F .f32) (w0 w1 : FVec F S256x256 .f32) (b : FVec F S1x256 .f32) (v50 : IVec S8x1x128 32)
    (e : Vec F S1x2048x256 .f32) (mu sg : Vec F S1x1 .f32)

/-- Each graph's chain of operations is the one function `graphRow`: graph 0. -/
theorem row0 : k0_pay22 c1 c2 iv w0 w1 b (k0_pay19 nodes (k0_pay18 v50) e mu sg) (k0_pay20 nodes c0 w0 w1 b (k0_pay18 v50) e mu sg) (k0_pay21 nodes (k0_pay18 v50) e mu sg)
    = graphRow c0 c1 c2 iv w0 w1 b (pickCol 0 slices_S8x1x128_o0_0_0_S1x1x128 v50) e mu sg := rfl
/-- Graph 1. -/
theorem row1 : k0_pay30 c1 c2 iv w0 w1 b (k0_pay25 (k0_pay23 nodes v50) (k0_pay24 e) mu sg) (k0_pay26 c0 w0 w1 b (k0_pay23 nodes v50) (k0_pay24 e) mu sg)
      (k0_pay28 w0 (k0_pay23 nodes v50) (k0_pay24 e) mu sg) (k0_pay29 w1 (k0_pay23 nodes v50) (k0_pay24 e) mu sg)
    = graphRow c0 c1 c2 iv w0 w1 b (pickCol 1 slices_S8x1x128_o1_0_0_S1x1x128 v50) e mu sg := rfl
/-- Graph 2. -/
theorem row2 : k0_pay41 c2 iv w0 w1 b
      (k0_pay38 (k0_pay31 nodes v50) (k0_pay35 e) (k0_pay36 e) (k0_pay37 nodes v50 e) (constant S64x256 .f32 0x00000000#32) mu sg)
      (k0_pay39 c0 w0 w1 b (k0_pay31 nodes v50) (k0_pay35 e) (k0_pay36 e) (k0_pay37 nodes v50 e) (constant S64x256 .f32 0x00000000#32) mu sg)
      (k0_pay40 c1 w0 w1 b (k0_pay31 nodes v50) (k0_pay35 e) (k0_pay36 e) (k0_pay37 nodes v50 e) (constant S64x256 .f32 0x00000000#32) mu sg)
    = graphRow c0 c1 c2 iv w0 w1 b (pickCol 2 slices_S8x1x128_o2_0_0_S1x1x128 v50) e mu sg := rfl
/-- Graph 3. -/
theorem row3 : k0_pay49 c2 iv b
      (k0_pay45 c0 c1 w0 w1 b (k0_pay42 nodes v50 e) (k0_pay43 mu) sg)
      (k0_pay47 w0 (k0_pay42 nodes v50 e) (k0_pay43 mu) sg) (k0_pay48 w1 (k0_pay42 nodes v50 e) (k0_pay43 mu) sg)
    = graphRow c0 c1 c2 iv w0 w1 b (pickCol 3 slices_S8x1x128_o3_0_0_S1x1x128 v50) e mu sg := rfl
/-- Graph 4. -/
theorem row4 : k0_pay55 c2 iv
      (k0_pay53 c0 c1 w0 w1 b (k0_pay50 nodes v50 e mu sg) (k0_pay51 nodes v50 e mu sg) (k0_pay52 w0) (constant S64x256 .f32 0x00000000#32))
      (k0_pay54 w0 w1 b (k0_pay50 nodes v50 e mu sg))
    = graphRow c0 c1 c2 iv w0 w1 b (pickCol 4 slices_S8x1x128_o4_0_0_S1x1x128 v50) e mu sg := rfl
/-- Graph 5. -/
theorem row5 : k0_pay58 c0 c1 c2 iv w0 w1 b (k0_pay56 nodes v50 e mu sg) (k0_pay57 nodes v50 w0 w1 b e mu sg)
    = graphRow c0 c1 c2 iv w0 w1 b (pickCol 5 slices_S8x1x128_o5_0_0_S1x1x128 v50) e mu sg := rfl
/-- Graph 6. -/
theorem row6 : k0_pay63 c1 c2 iv w0 w1 b (k0_pay60 nodes (k0_pay59 v50) e mu sg) (k0_pay61 nodes c0 w0 w1 b (k0_pay59 v50) e mu sg) (k0_pay62 nodes (k0_pay59 v50) e mu sg)
    = graphRow c0 c1 c2 iv w0 w1 b (pickCol 6 slices_S8x1x128_o6_0_0_S1x1x128 v50) e mu sg := rfl
/-- Graph 7, whose row is made in the operation that stacks the rows. -/
theorem row7 (r0 r1 r2 r3 r4 r5 r6 : FVec F S1x256 .f32) (dw : Vec F S256x256 .f32) :
    k0_pay71 c1 c2 iv w0 w1 b r0 r1 r2 r3 r4 r5 r6 (k0_pay66 (k0_pay64 nodes v50) (k0_pay65 e) mu sg)
      (k0_pay67 c0 w0 w1 b (k0_pay64 nodes v50) (k0_pay65 e) mu sg) (k0_pay69 w0 (k0_pay64 nodes v50) (k0_pay65 e) mu sg)
      (k0_pay70 w1 (k0_pay64 nodes v50) (k0_pay65 e) mu sg) dw
    = prodRows r0 r1 r2 r3 r4 r5 r6 (graphRow c0 c1 c2 iv w0 w1 b (pickCol 7 slices_S8x1x128_o7_0_0_S1x1x128 v50) e mu sg) dw := rfl
end

end Cert.KernelIdeal.Hand

end
-- ==== Proof.Val.Last.lean ====
module

public import proofs.«01_k».proof.Proof.Val.RowGen
public import Idealize.ShloMosaic.Lib.Pointwise

@[expose] public section

set_option maxRecDepth 16384

noncomputable section

namespace Cert.KernelIdeal.Hand

open Cert.KernelIdeal.Gen
open Idealize.ShloMosaic Idealize.ShloMosaic.TcCoe

section
variable {F : FTy → Type} [FloatOps F]

/-- Graph `g`'s row of taken nodes lies in the array. -/
theorem pick_slices (g : Fin 8) : S8x1x128.Slices ![g.val, 0, 0] S1x1x128 := by
  refine ⟨rfl, fun a => ?_⟩
  have := g.isLt
  fin_cases a <;> simp [Shape.size] <;> omega

/-- Graph `g`'s slab lies in the array. -/
theorem slab_inb (g : Fin 8) (a : Fin 3) : (![g.val, 0, 0] : Fin 3 → ℕ) a + S1x2048x256.size a ≤ S8x2048x256.size a := by
  have := g.isLt
  fin_cases a <;> simp [Shape.size] <;> omega

/-- The first cell of row `g` lies in the array. -/
theorem cell_inb (g : Fin 8) (a : Fin 2) : (![g.val, 0] : Fin 2 → ℕ) a + S1x1.size a ≤ S8x128.size a := by
  have := g.isLt
  fin_cases a <;> simp [Shape.size] <;> omega

/-- Logit `k` lies in the array. -/
theorem one_inb (k : Fin 3) (a : Fin 2) : (![0, k.val] : Fin 2 → ℕ) a + S1x1.size a ≤ S1x3.size a := by
  have := k.isLt
  fin_cases a <;> simp [Shape.size] <;> omega

/-- A mixing logit, as a one-cell block. -/
abbrev logit (x5 : Vec F S1x3 .f32) (k : Fin 3) : Vec F S1x1 .f32 := VecWindow.window x5 ![0, k.val] S1x1.size (one_inb k)

/-- Graph `g`'s embedding from the arrays that hold every graph's. -/
def rowOf (e : Vec F S8x2048x256 .f32) (s : Vec F S8x16x128 .f32) (mu sg : Vec F S8x128 .f32) (x5 : Vec F S1x3 .f32)
    (x6 x7 : Vec F S256x256 .f32) (x8 : Vec F S1x256 .f32) (g : Fin 8) : FVec F S1x256 .f32 :=
  graphRow (k0_pay11 (logit x5 0) (logit x5 1) (logit x5 2)) (k0_pay12 (logit x5 0) (logit x5 1) (logit x5 2))
    (k0_pay13 (logit x5 0) (logit x5 1) (logit x5 2)) (k0_pay14 (logit x5 0) (logit x5 1) (logit x5 2))
    (k0_pay15 x6) (k0_pay16 x7) (k0_pay17 x8) (pickCol g.val (pick_slices g) (picks s).2)
    (VecWindow.window e ![g.val, 0, 0] S1x2048x256.size (slab_inb g))
    (VecWindow.window mu ![g.val, 0] S1x1.size (cell_inb g)) (VecWindow.window sg ![g.val, 0] S1x1.size (cell_inb g))

/-- The eight embeddings times the discriminator's weights, from the arrays. -/
def prodAll (e : Vec F S8x2048x256 .f32) (s : Vec F S8x16x128 .f32) (mu sg : Vec F S8x128 .f32) (x5 : Vec F S1x3 .f32)
    (x6 x7 : Vec F S256x256 .f32) (x8 : Vec F S1x256 .f32) (x10 : Vec F S256x256 .f32) : FVec F S8x256 .f32 :=
  prodRows (rowOf e s mu sg x5 x6 x7 x8 0) (rowOf e s mu sg x5 x6 x7 x8 1) (rowOf e s mu sg x5 x6 x7 x8 2) (rowOf e s mu sg x5 x6 x7 x8 3)
    (rowOf e s mu sg x5 x6 x7 x8 4) (rowOf e s mu sg x5 x6 x7 x8 5) (rowOf e s mu sg x5 x6 x7 x8 6) (rowOf e s mu sg x5 x6 x7 x8 7) x10

/-- What the last point stores is two row sums against that product. -/
theorem lastRows_eq (e : Vec F S8x2048x256 .f32) (s : Vec F S8x16x128 .f32) (mu sg : Vec F S8x128 .f32) (x2 x3 : Vec F S8x256 .f32) (x5 : Vec F S1x3 .f32)
    (x6 x7 : Vec F S256x256 .f32) (x8 : Vec F S1x256 .f32) (x10 : Vec F S256x256 .f32) :
    lastRows e s mu sg x2 x3 x5 x6 x7 x8 x10
      = (k0_pay1 (prodAll e s mu sg x5 x6 x7 x8 x10) x2, k0_pay1 (prodAll e s mu sg x5 x6 x7 x8 x10) (k0_pay73 x3)) := rfl
end

/-- The convolution of width two over the taken nodes, rectified, and its maximum over the places. -/
def cnn (t : Fin 64 → Fin 256 → EReal) (w0 w1 : Fin 256 → Fin 256 → EReal) (b : Fin 256 → EReal) (f : Fin 256) : EReal :=
  Finset.fold max (Ideal.ofBits FTy.f32 0xFF800000#32)
    (fun x : Fin 63 => max (∑ k, t ⟨x.val, by omega⟩ k * w0 k f + ∑ k, t ⟨1 + x.val, by omega⟩ k * w1 k f + b f) 0) Finset.univ

/-- One at the node whose number is `i`, zero elsewhere. -/
def hot (i : BitVec 32) (x : Fin 2048) : EReal := FloatOps.sitofp (F := Ideal) FTy.f32 (BitVec.setWidth 32 (IntOp.cmpi CmpIPredicate.eq (BitVec.ofNat 32 x.val) i))

/-- A graph's embedding at a feature: the three pooled branches weighted, and the total scaled. -/
theorem graphRow_apply (c0 c1 c2 iv : EReal) (w0 w1 : FVec Ideal S256x256 .f32) (b : FVec Ideal S1x256 .f32) (col : IVec S64x1 32)
    (e : Vec Ideal S1x2048x256 .f32) (mu sg : Vec Ideal S1x1 .f32) (f : Fin 256) :
    graphRow (F := Ideal) c0 c1 c2 iv w0 w1 b col e mu sg (ix2 0 f)
      = (c0 * cnn (fun p k => k0_pay19 nodes col e mu sg (ix2 p k)) (fun k f => w0 (ix2 k f)) (fun k f => w1 (ix2 k f)) (fun f => b (ix2 0 f)) f
        + c1 * cnn (fun p k => max (k0_pay19 nodes col e mu sg (ix2 p k)) 0) (fun k f => w0 (ix2 k f)) (fun k f => w1 (ix2 k f)) (fun f => b (ix2 0 f)) f
        + c2 * cnn (fun p k => Ideal.tanh (k0_pay19 nodes col e mu sg (ix2 p k))) (fun k f => w0 (ix2 k f)) (fun k f => w1 (ix2 k f)) (fun f => b (ix2 0 f)) f)
        * iv := by
  pointwise [graphRow, k0_pay22, k0_pay20, k0_pay21, cnn]

/-- A taken node's normalised features: the one-hot sums over the activations, split in three, centred and divided. -/
theorem pay19_apply (col : IVec S64x1 32) (e : Vec Ideal S1x2048x256 .f32) (mu sg : Vec Ideal S1x1 .f32) (p : Fin 64) (f : Fin 256) :
    k0_pay19 nodes col e mu sg (ix2 p f) = Ideal.div
      (∑ x : Fin 2048, hot (col (ix2 p 0)) x * e (ix3 0 x f)
        + (∑ x : Fin 2048, hot (col (ix2 p 0)) x * (e (ix3 0 x f) - e (ix3 0 x f))
          + ∑ x : Fin 2048, hot (col (ix2 p 0)) x * (e (ix3 0 x f) - e (ix3 0 x f) - (e (ix3 0 x f) - e (ix3 0 x f))))
        - mu (ix2 0 0)) (sg (ix2 0 0)) := by
  pointwise [k0_pay19, nodes, hot]

/-- The column of taken nodes, entry by entry. -/
theorem pickCol_apply (g : Fin 8) (v50 : IVec S8x1x128 32) (p : Fin 64) :
    pickCol g.val (pick_slices g) v50 (ix2 p 0) = v50 (ix3 g 0 ⟨p.val, by omega⟩) := by
  pointwise [pickCol]

/-- A row sum against the product. -/
theorem pay1_apply (P x : FVec Ideal S8x256 .f32) (j : Fin 8) : k0_pay1 P x (ix2 0 j) = ∑ f : Fin 256, x (ix2 j f) * P (ix2 j f) := by
  pointwise [k0_pay1]

/-- The reversed originals pass unchanged. -/
theorem pay73_apply (x : Vec Ideal S8x256 .f32) (j : Fin 8) (f : Fin 256) : k0_pay73 x (ix2 j f) = x (ix2 j f) := by
  pointwise [k0_pay73]
/-- The first tap's weights pass unchanged. -/
theorem pay15_apply (x : Vec Ideal S256x256 .f32) (j f : Fin 256) : k0_pay15 x (ix2 j f) = x (ix2 j f) := by
  pointwise [k0_pay15]
/-- The second tap's weights pass unchanged. -/
theorem pay16_apply (x : Vec Ideal S256x256 .f32) (j f : Fin 256) : k0_pay16 x (ix2 j f) = x (ix2 j f) := by
  pointwise [k0_pay16]
/-- The bias passes unchanged. -/
theorem pay17_apply (x : Vec Ideal S1x256 .f32) (f : Fin 256) : k0_pay17 x (ix2 0 f) = x (ix2 0 f) := by
  pointwise [k0_pay17]

/-- The mixing weights: an exponential of a logit less the greatest, and one over their sum. -/
theorem pay11_eq (u v w : Vec Ideal S1x1 .f32) : k0_pay11 u v w = Ideal.exp (u (ix2 0 0) - max (u (ix2 0 0)) (max (v (ix2 0 0)) (w (ix2 0 0)))) := by
  pointwise [k0_pay11, k0_pay10, k0_pay9, k0_pay8, k0_pay7]
  rfl
/-- The second mixing weight before scaling. -/
theorem pay12_eq (u v w : Vec Ideal S1x1 .f32) : k0_pay12 u v w = Ideal.exp (v (ix2 0 0) - max (u (ix2 0 0)) (max (v (ix2 0 0)) (w (ix2 0 0)))) := by
  pointwise [k0_pay12, k0_pay10, k0_pay9, k0_pay8, k0_pay7]
  rfl
/-- The third mixing weight before scaling. -/
theorem pay13_eq (u v w : Vec Ideal S1x1 .f32) : k0_pay13 u v w = Ideal.exp (w (ix2 0 0) - max (u (ix2 0 0)) (max (v (ix2 0 0)) (w (ix2 0 0)))) := by
  pointwise [k0_pay13, k0_pay10, k0_pay9, k0_pay8, k0_pay7]
  rfl
/-- One over the sum of the three. -/
theorem pay14_eq (u v w : Vec Ideal S1x1 .f32) : k0_pay14 u v w = Ideal.div 1 (k0_pay11 u v w + k0_pay12 u v w + k0_pay13 u v w) := by
  pointwise [k0_pay14]

/-- The product of the stacked embeddings and the discriminator's weights, entry by entry. -/
theorem prodRows_apply (r : Fin 8 → FVec Ideal S1x256 .f32) (dw : Vec Ideal S256x256 .f32) (j : Fin 8) (f : Fin 256) :
    prodRows (r 0) (r 1) (r 2) (r 3) (r 4) (r 5) (r 6) (r 7) dw (ix2 j f) = ∑ k : Fin 256, r j (ix2 0 k) * dw (ix2 k f) := by
  fin_cases j <;> pointwise [prodRows]

end Cert.KernelIdeal.Hand

end
-- ==== Proof.Val.TopSeq.lean ====
module

public import Idealize.ShloMosaic.Lib.SortPrefix
public import Mathlib.Data.EReal.Basic
public import Idealize.ShloMosaic.Lib.Pointwise

@[expose] public section

set_option maxRecDepth 16384

noncomputable section

namespace Cert.TopSeq

open Idealize.ShloMosaic

/-- A stable sort by a key alone, of a list in position order, is the sort by the key and then the position. -/
theorem stableSort_position {n : ℕ} {κ : Type} [DecidableEq κ] (lt : κ → κ → Bool) (key : Fin n → κ) (l : List (Fin n)) (hl : l.Pairwise (· < ·)) :
    stableSort (fun k k' => lt (key k) (key k')) l
      = stableSort (fun k k' => lt (key k) (key k') || (decide (key k = key k') && decide (k < k'))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- Sorting by keys with ties kept in order is sorting by key and then by position. -/
theorem sortedFrom_position {n : ℕ} {κ : Type} [DecidableEq κ] (lt : κ → κ → Bool) (key : Fin n → κ) :
    sortedFrom (fun k k' => lt (key k) (key k'))
      = sortedFrom (fun k k' => lt (key k) (key k') || (decide (key k = key k') && decide (k < k'))) := by
  funext k
  unfold sortedFrom sortPositions
  have h := stableSort_position lt key (List.finRange n) (List.pairwise_lt_finRange n)
  simp only [List.get_eq_getElem, h]
  rfl

variable {n : ℕ} [NeZero n]

/-- A finite line of values has a greatest. -/
theorem exists_max (y : Fin n → EReal) : ∃ p : Fin n, ∀ m, y m ≤ y p := by
  obtain ⟨p, -, hp⟩ := Finset.exists_max_image Finset.univ y ⟨0, Finset.mem_univ _⟩
  exact ⟨p, fun m => hp m (Finset.mem_univ _)⟩

open Classical in
/-- The least position of the greatest value. -/
def pick (y : Fin n → EReal) : Fin n :=
  (Finset.univ.filter fun p => ∀ m, y m ≤ y p).min' ((exists_max y).imp fun _ h => Finset.mem_filter.mpr ⟨Finset.mem_univ _, h⟩)

/-- The picked value is the greatest. -/
theorem pick_max (y : Fin n → EReal) (m : Fin n) : y m ≤ y (pick y) := by
  classical
  exact (Finset.mem_filter.mp (Finset.min'_mem (Finset.univ.filter fun p => ∀ m, y m ≤ y p) _)).2 m

/-- The pick is the first of the greatest. -/
theorem pick_least (y : Fin n → EReal) (p : Fin n) (h : ∀ m, y m ≤ y p) : pick y ≤ p := by
  classical
  exact Finset.min'_le _ _ (Finset.mem_filter.mpr ⟨Finset.mem_univ _, h⟩)

/-- The values after `k` rounds, each of which lowers the value picked to the bottom. -/
def left (x : Fin n → EReal) : ℕ → Fin n → EReal
  | 0 => x
  | k + 1 => fun m => if m = pick (left x k) then ⊥ else left x k m

/-- The position picked in round `k`. -/
def sel (x : Fin n → EReal) (k : ℕ) : Fin n := pick (left x k)

/-- After `k` rounds a node is masked if it was taken, and untouched if not. -/
theorem left_eq (x : Fin n → EReal) (k : ℕ) (m : Fin n) : (∃ j, j < k ∧ sel x j = m) ∧ left x k m = ⊥ ∨ (∀ j, j < k → sel x j ≠ m) ∧ left x k m = x m := by
  induction k with
  | zero => exact Or.inr ⟨fun j h => absurd h (Nat.not_lt_zero j), rfl⟩
  | succ k ih =>
    by_cases hm : m = pick (left x k)
    · exact Or.inl ⟨⟨k, Nat.lt_succ_self k, hm.symm⟩, by simp [left, hm]⟩
    · have e : left x (k + 1) m = left x k m := by simp [left, hm]
      rw [e]
      rcases ih with ⟨⟨j, hj, h⟩, h2⟩ | ⟨h, h2⟩
      · exact Or.inl ⟨⟨j, by omega, h⟩, h2⟩
      · refine Or.inr ⟨fun j hj h' => ?_, h2⟩
        rcases Nat.lt_succ_iff_lt_or_eq.mp hj with hj | rfl
        · exact h j hj h'
        · exact hm h'.symm

/-- Masking never raises a value. -/
theorem left_le (x : Fin n → EReal) (k : ℕ) (m : Fin n) : left x k m ≤ x m := by
  rcases left_eq x k m with ⟨-, h⟩ | ⟨-, h⟩ <;> simp [h]

variable (x : Fin n → EReal) (hx : ∀ m, ⊥ < x m)
include hx

/-- While some position is unpicked the round picks a new one. -/
theorem sel_new (k : ℕ) (hk : k < n) : ∀ j, j < k → sel x j ≠ sel x k := by
  have hex : ∃ m : Fin n, ∀ j, j < k → sel x j ≠ m := by
    by_contra hno
    push Not at hno
    have hs : Function.Surjective (fun j : Fin k => sel x j.val) := fun m => by
      obtain ⟨j, hj, h⟩ := hno m
      exact ⟨⟨j, hj⟩, h⟩
    have := Fintype.card_le_of_surjective _ hs
    simp at this
    omega
  obtain ⟨m, hm⟩ := hex
  have hlm : left x k m = x m := by
    rcases left_eq x k m with ⟨⟨j, hj, h⟩, -⟩ | ⟨-, h⟩
    · exact absurd h (hm j hj)
    · exact h
  have hpos : ⊥ < left x k (sel x k) := lt_of_lt_of_le (by rw [hlm]; exact hx m) (pick_max (left x k) m)
  rcases left_eq x k (sel x k) with ⟨-, h⟩ | ⟨h, -⟩
  · rw [h] at hpos; exact absurd hpos (lt_irrefl _)
  · exact h

/-- The pick of a round is no less than any position not picked before, and of equals it is the first. -/
theorem sel_best (k : ℕ) (hk : k < n) (m : Fin n) (hm : ∀ j, j < k → sel x j ≠ m) :
    x m ≤ x (sel x k) ∧ (x m = x (sel x k) → sel x k ≤ m) := by
  have h1 : left x k m = x m := by
    rcases left_eq x k m with ⟨⟨j, hj, h⟩, -⟩ | ⟨-, h⟩
    · exact absurd h (hm j hj)
    · exact h
  have h2 : left x k (sel x k) = x (sel x k) := by
    rcases left_eq x k (sel x k) with ⟨⟨j, hj, h⟩, -⟩ | ⟨-, h⟩
    · exact absurd h (sel_new x hx k hk j hj)
    · exact h
  refine ⟨by rw [← h1, ← h2]; exact pick_max _ m, fun e => pick_least _ m fun q => ?_⟩
  have := pick_max (left x k) q
  rw [h1, e, ← h2]; exact this

/-- The rounds pick the first positions of the stable sort, greatest first. -/
theorem sortedFrom_eq_sel (K : ℕ) (hK : K ≤ n) (i : Fin K) :
    sortedFrom (fun k k' : Fin n => decide (x k' < x k)) (i.castLE hK) = sel x i.val := by
  classical
  have hB := StrictTotalBefore.of_key_then_position (fun a b : EReal => decide (b < a)) x (by simp)
    (by intro a b c h h'; simp at h h' ⊢; exact h'.trans h)
    (by intro a b; simp; rcases lt_trichotomy a b with h | h | h
        · exact Or.inr (Or.inr h)
        · exact Or.inr (Or.inl h)
        · exact Or.inl h)
  have hnot : ∀ (i : Fin K) (p : Fin n), (∀ j, j < i.val → sel x j ≠ p) →
      (decide (x (sel x i.val) < x p) || (decide (x p = x (sel x i.val)) && decide (p < sel x i.val))) = false := by
    intro i p hp
    obtain ⟨h1, h2⟩ := sel_best x hx i.val (by omega) p hp
    simp only [Bool.or_eq_false_iff, Bool.and_eq_false_iff, decide_eq_false_iff_not, not_lt]
    refine ⟨h1, ?_⟩
    by_cases e : x p = x (sel x i.val)
    · exact Or.inr (h2 e)
    · exact Or.inl e
  rw [sortedFrom_position (fun a b : EReal => decide (b < a)) x]
  refine hB.sortedFrom_eq_of_prefix hK (fun i : Fin K => sel x i.val) ?_ ?_ ?_ i
  · intro a b hab
    by_contra hne
    rcases lt_or_gt_of_ne (fun h : a.val = b.val => hne (Fin.ext h)) with h | h
    · exact sel_new x hx b.val (by omega) a.val h hab
    · exact sel_new x hx a.val (by omega) b.val h hab.symm
  · intro i j hij
    exact hnot i _ fun l hl => sel_new x hx j.val (by omega) l (by have : i.val < j.val := hij; omega)
  · intro i p hp
    exact hnot i p fun l hl => hp ⟨l, by omega⟩

end Cert.TopSeq

end
-- ==== Proof.Val.Picks.lean ====
module

public import proofs.«01_k».proof.Proof.KI.Rows
public import proofs.«01_k».proof.Proof.Val.TopSeq
public import Idealize.ShloMosaic.Lib.Pointwise
public import Idealize.ShloMosaic.Lib.SortNet.Extract
public import Idealize.ShloMosaic.Lib.Pointwise

@[expose] public section

set_option maxRecDepth 16384

noncomputable section

namespace Cert.KernelIdeal.Hand

open Cert.KernelIdeal.Gen
open Idealize.ShloMosaic Idealize.ShloMosaic.TcCoe Cert.TopSeq

/-- The place of a node in the rows of 128. -/
def flat (r : Fin 16) (d : Fin 128) : Fin 2048 := ⟨r.val * 128 + d.val, by omega⟩

/-- Graph `b`'s values in one line. -/
def line (y : Vec Ideal S8x16x128 .f32) (b : Fin 8) (m : Fin 2048) : EReal := y (ix3 b ⟨m.val / 128, by omega⟩ ⟨m.val % 128, by omega⟩)

/-- The line at a flat position is the array there. -/
theorem line_flat (y : Vec Ideal S8x16x128 .f32) (b : Fin 8) (r : Fin 16) (d : Fin 128) : line y b (flat r d) = y (ix3 b r d) := by
  unfold line flat
  congr 1
  have h1 : (r.val * 128 + d.val) / 128 = r.val := by omega
  have h2 : (r.val * 128 + d.val) % 128 = d.val := by omega
  simp only [h1, h2, Fin.eta]

/-- Every node number is a flat position. -/
theorem exists_flat (m : Fin 2048) : ∃ r d, flat r d = m :=
  ⟨⟨m.val / 128, by omega⟩, ⟨m.val % 128, by omega⟩, Fin.ext (by simp [flat]; omega)⟩

/-- The word computed for a flat position is its number. -/
theorem word_flat (r : Fin 16) (d : Fin 128) :
    IntOp.addi (IntOp.muli (BitVec.ofNat 32 r.val) 128#32) (BitVec.ofNat 32 d.val) = BitVec.ofNat 32 (flat r d).val := by
  apply BitVec.eq_of_toNat_eq
  simp [IntOp.addi, IntOp.muli, flat]

/-- Node numbers are told apart by their words. -/
theorem word_inj {a b : ℕ} (ha : a < 2048) (hb : b < 2048) : BitVec.ofNat 32 a = BitVec.ofNat 32 b ↔ a = b := by
  refine ⟨fun h => ?_, fun h => h ▸ rfl⟩
  have := congrArg BitVec.toNat h
  simp only [BitVec.toNat_ofNat] at this
  omega

/-- A node number's word read as an integer. -/
theorem word_toInt {a : ℕ} (ha : a ≤ 2048) : (BitVec.ofNat 32 a).toInt = a := by
  rw [BitVec.toInt_eq_toNat_of_lt (by simp; omega)]
  simp
  omega

/-- The word of minus infinity. -/
theorem ofBits_bot : Ideal.ofBits FTy.f32 0xFF800000#32 = ⊥ := by simp [Ideal.ofBits, Ideal.ieee]

/-- Selecting on an equality of words is a choice on their equality. -/
theorem select_eq {α : Type} {w : ℕ} (a b : BitVec w) (x y : α) : Scalar.select (IntOp.cmpi CmpIPredicate.eq a b) x y = if a = b then x else y := by
  by_cases h : a = b
  · simp [Scalar.select, IntOp.cmpi, h]
  · have hb : (a == b) = false := by simp [h]
    simp [Scalar.select, IntOp.cmpi, hb, h]

/-- The greatest value of a graph, as the kernel's two reductions take it. -/
theorem foldMax_eq (y : Vec Ideal S8x16x128 .f32) (b : Fin 8) :
    Finset.fold max (Ideal.ofBits FTy.f32 0xFF800000#32)
      (fun r : Fin 16 => Finset.fold max (Ideal.ofBits FTy.f32 0xFF800000#32) (fun d : Fin 128 => y (ix3 b r d)) Finset.univ) Finset.univ
      = line y b (pick (line y b)) := by
  rw [ofBits_bot]
  apply le_antisymm
  · rw [Finset.fold_max_le]
    refine ⟨bot_le, fun r _ => ?_⟩
    rw [Finset.fold_max_le]
    refine ⟨bot_le, fun d _ => ?_⟩
    rw [← line_flat y b r d]
    exact pick_max _ _
  · obtain ⟨r, d, h⟩ := exists_flat (pick (line y b))
    rw [Finset.le_fold_max]
    refine Or.inr ⟨r, Finset.mem_univ _, ?_⟩
    rw [Finset.le_fold_max]
    refine Or.inr ⟨d, Finset.mem_univ _, ?_⟩
    rw [← line_flat y b r d, h]

/-- The position a round takes is the first position of the greatest value. -/
theorem pay4_apply (y : Vec Ideal S8x16x128 .f32) (b : Fin 8) : k0_pay4 y (ix3 b 0 0) = BitVec.ofNat 32 (pick (line y b)).val := by
  have h : k0_pay4 y (ix3 b 0 0) = Finset.fold IntOp.minsi 2147483647#32 (fun r : Fin 16 => Finset.fold IntOp.minsi 2147483647#32
      (fun d : Fin 128 => if Finset.fold max (Ideal.ofBits FTy.f32 0xFF800000#32)
          (fun r : Fin 16 => Finset.fold max (Ideal.ofBits FTy.f32 0xFF800000#32) (fun d : Fin 128 => y (ix3 b r d)) Finset.univ) Finset.univ ≤ y (ix3 b r d)
        then IntOp.addi (IntOp.muli (BitVec.ofNat 32 r.val) 128#32) (BitVec.ofNat 32 d.val) else 2048#32) Finset.univ) Finset.univ := by
    pointwise [k0_pay4, k0_pay2]
  rw [h, foldMax_eq]
  simp only [word_flat]
  apply BitVec.eq_of_toInt_eq
  have hom : ∀ {ι : Type} (s : Finset ι) (g : ι → BitVec 32), (Finset.fold IntOp.minsi 2147483647#32 g s).toInt
      = Finset.fold min (2147483647#32 : BitVec 32).toInt (fun i => (g i).toInt) s := fun s g =>
    (Finset.fold_hom (op := IntOp.minsi) (op' := min) (m := BitVec.toInt) fun a b => SortNet.toInt_minsi a b).symm
  rw [hom]
  simp only [hom]
  have hp : (pick (line y b)).val < 2048 := (pick (line y b)).isLt
  rw [word_toInt hp.le]
  have hbig : (2147483647#32 : BitVec 32).toInt = 2147483647 := by decide
  apply le_antisymm
  · obtain ⟨r, d, h⟩ := exists_flat (pick (line y b))
    rw [Finset.fold_min_le]
    refine Or.inr ⟨r, Finset.mem_univ _, ?_⟩
    rw [Finset.fold_min_le]
    refine Or.inr ⟨d, Finset.mem_univ _, ?_⟩
    rw [← line_flat y b r d, h, if_pos le_rfl, word_toInt hp.le]
  · rw [Finset.le_fold_min, hbig]
    refine ⟨by omega, fun r _ => ?_⟩
    rw [Finset.le_fold_min]
    refine ⟨by omega, fun d _ => ?_⟩
    rw [← line_flat y b r d]
    split
    · rename_i hle
      rw [word_toInt (flat r d).isLt.le]
      have := pick_least (line y b) (flat r d) fun m => (pick_max _ m).trans hle
      exact_mod_cast this
    · rw [show (2048#32 : BitVec 32) = BitVec.ofNat 32 2048 from rfl, word_toInt le_rfl]
      exact_mod_cast hp.le

/-- One round writes the node it found in the round's place. -/
theorem pay5_apply (k : Fin k0_t1_loop.trips) (y : Vec Ideal S8x16x128 .f32) (a : IVec S8x1x128 32) (b : Fin 8) (d : Fin 128) :
    k0_pay5 k y a (ix3 b 0 d) = if d.val = k.val then BitVec.ofNat 32 (pick (line y b)).val else a (ix3 b 0 d) := by
  have h : k0_pay5 k y a (ix3 b 0 d) = Scalar.select (IntOp.cmpi CmpIPredicate.eq (BitVec.ofNat 32 d.val) (Scf.iv 0#32 1#32 k.val)) (k0_pay4 y (ix3 b 0 0)) (a (ix3 b 0 d)) := by
    pointwise [k0_pay5]
  have hk : k.val < 64 := lt_of_lt_of_eq k.isLt (by decide +kernel)
  have hiv : Scf.iv 0#32 1#32 k.val = BitVec.ofNat 32 k.val := by simp [Scf.iv]
  rw [h, hiv, select_eq, pay4_apply]
  simp only [word_inj (show d.val < 2048 by omega) (show k.val < 2048 by omega)]

/-- One round masks the node it found. -/
theorem pay6_apply (y : Vec Ideal S8x16x128 .f32) (b : Fin 8) (r : Fin 16) (d : Fin 128) :
    k0_pay6 y (ix3 b r d) = if flat r d = pick (line y b) then ⊥ else y (ix3 b r d) := by
  have h : k0_pay6 y (ix3 b r d) = Scalar.select (IntOp.cmpi CmpIPredicate.eq (IntOp.addi (IntOp.muli (BitVec.ofNat 32 r.val) 128#32) (BitVec.ofNat 32 d.val))
      (k0_pay4 y (ix3 b 0 0))) (Ideal.ofBits FTy.f32 0xFF800000#32) (y (ix3 b r d)) := by
    pointwise [k0_pay6, k0_pay2]
  rw [h, select_eq, pay4_apply, word_flat, ofBits_bot]
  simp only [word_inj (flat r d).isLt (pick (line y b)).isLt, Fin.ext_iff]

/-- A property that every trip keeps holds after them all. -/
theorem foldl_keeps {σ : Type} : ∀ {n : ℕ} (P : ℕ → σ → Prop) (g : Fin n → σ → σ) (a : σ), P 0 a → (∀ (k : Fin n) a, P k.val a → P (k.val + 1) (g k a)) →
    P n ((List.finRange n).foldl (fun acc k => g k acc) a) := by
  intro n
  induction n with
  | zero => intro P g a h0 _; simpa using h0
  | succ n ih =>
    intro P g a h0 hs
    rw [List.finRange_succ, List.foldl_cons, List.foldl_map]
    exact ih (fun k => P (k + 1)) (fun k => g k.succ) (g 0 a) (hs 0 a h0) fun k a h => hs k.succ a h

/-- The positions taken are the picks of the sequence of rounds. -/
theorem picks_apply (s : Vec Ideal S8x16x128 .f32) (b : Fin 8) (p : Fin 128) (hp : p.val < 64) :
    (picks s).2 (ix3 b 0 p) = BitVec.ofNat 32 (sel (line s b) p.val).val := by
  have h := foldl_keeps (n := k0_t1_loop.trips)
    (P := fun k (a : Vec Ideal S8x16x128 .f32 × IVec S8x1x128 32) => (∀ b m, line a.1 b m = left (line s b) k m)
      ∧ ∀ b (d : Fin 128), d.val < k → a.2 (ix3 b 0 d) = BitVec.ofNat 32 (sel (line s b) d.val).val)
    (fun k a => (k0_pay6 a.1, k0_pay5 k a.1 a.2)) (s, k0_pay3) ⟨fun b m => rfl, fun b d hd => absurd hd (Nat.not_lt_zero _)⟩
    (fun k a ⟨h1, h2⟩ => by
      have hl : ∀ b, line a.1 b = left (line s b) k.val := fun b => funext (h1 b)
      refine ⟨fun b m => ?_, fun b d hd => ?_⟩
      · obtain ⟨r, d, rfl⟩ := exists_flat m
        rw [line_flat]
        show k0_pay6 a.1 (ix3 b r d) = _
        rw [pay6_apply, hl, ← line_flat a.1 b r d, hl]
        rfl
      · show k0_pay5 k a.1 a.2 (ix3 b 0 d) = _
        rw [pay5_apply, hl]
        split
        · rename_i e
          rw [e]; rfl
        · exact h2 b d (by omega))
  have ht : k0_t1_loop.trips = 64 := by decide +kernel
  unfold picks
  rw [Scf.fold_eq]
  exact h.2 b p (by omega)

end Cert.KernelIdeal.Hand

end
-- ==== Proof.Val.Elu.lean ====
module

public import proofs.«01_k».proof.Proof.Val.Real
public import proofs.«01_k».proof.Proof.Val.KPay
public import proofs.«01_k».proof.Proof.Val.Last
public import proofs.«01_k».proof.Proof.Val.Picks
public import Idealize.ShloMosaic.Lib.Pointwise

@[expose] public section

set_option maxRecDepth 16384

noncomputable section

namespace Cert.KernelIdeal.Hand

open Idealize.ShloMosaic Cert.Reals

/-- On a real number the kernel's guarded quotient is the exponential less one. -/
theorem kelu_real {h : EReal} (hr : IsReal h) : kelu h = if 0 < h then h else Ideal.exp (if 0 < h then 0 else h) - 1 := by
  obtain ⟨r, rfl⟩ := hr
  unfold kelu
  by_cases hp : (0 : EReal) < (r : EReal)
  · rw [if_pos hp, if_pos hp]
  · rw [if_neg hp, if_neg hp, if_neg hp, min_eq_left (not_lt.1 hp), Ideal.exp_coe]
    by_cases h1 : ((Real.exp r : ℝ) : EReal) = 1
    · rw [if_pos h1, h1]
      have hr0 : r = 0 := by
        have : Real.exp r = 1 := by exact_mod_cast h1
        exact Real.exp_eq_one_iff r |>.1 this
      rw [hr0]
      show (0 : EReal) = ((1 : ℝ) : EReal) - ((1 : ℝ) : EReal)
      rw [← EReal.coe_sub]; simp
    · rw [if_neg h1]
      have hr0 : r ≠ 0 := by
        rintro rfl
        exact h1 (by simp)
      have hl : Ideal.log ((Real.exp r : ℝ) : EReal) = (r : EReal) := by
        show (if Real.exp r ≤ 0 then ⊥ else ((Real.log (Real.exp r) : ℝ) : EReal)) = _
        rw [if_neg (not_le.2 (Real.exp_pos r)), Real.log_exp]
      rw [hl, Ideal.div_coe hr0]
      show (((Real.exp r : ℝ) : EReal) - ((1 : ℝ) : EReal)) * (r : EReal) * ((1 / r : ℝ) : EReal) = ((Real.exp r : ℝ) : EReal) - ((1 : ℝ) : EReal)
      rw [← EReal.coe_sub, ← EReal.coe_mul, ← EReal.coe_mul]
      congr 1
      field_simp

/-- The rectifier keeps real numbers real. -/
theorem elu_isReal {h : EReal} (hr : IsReal h) : IsReal (if 0 < h then h else Ideal.exp (if 0 < h then 0 else h) - 1) := by
  obtain ⟨r, rfl⟩ := hr
  by_cases hp : (0 : EReal) < (r : EReal)
  · rw [if_pos hp]; exact ⟨r, rfl⟩
  · rw [if_neg hp, if_neg hp, Ideal.exp_coe]
    exact (isReal_coe _).sub ⟨1, rfl⟩

/-- The one-hot indicator. -/
theorem hot_eq (m x : Fin 2048) : hot (BitVec.ofNat 32 m.val) x = if x = m then 1 else 0 := by
  unfold hot
  by_cases h : x = m
  · subst h
    rw [if_pos rfl]
    have : IntOp.cmpi CmpIPredicate.eq (BitVec.ofNat 32 x.val) (BitVec.ofNat 32 x.val) = 1#1 := by simp [IntOp.cmpi]
    rw [this]
    show (((BitVec.setWidth 32 1#1).toInt : ℝ) : EReal) = 1
    norm_num
  · rw [if_neg h]
    have hb : (BitVec.ofNat 32 x.val == BitVec.ofNat 32 m.val) = false := by
      rw [beq_eq_false_iff_ne]
      intro e
      exact h (Fin.ext ((word_inj x.isLt m.isLt).1 e))
    have : IntOp.cmpi CmpIPredicate.eq (BitVec.ofNat 32 x.val) (BitVec.ofNat 32 m.val) = 0#1 := by simp [IntOp.cmpi, hb]
    rw [this]
    show (((BitVec.setWidth 32 0#1).toInt : ℝ) : EReal) = 0
    norm_num

/-- A one-hot sum takes the entry at the node. -/
theorem sum_hot (m : Fin 2048) (e : Fin 2048 → EReal) : ∑ x : Fin 2048, hot (BitVec.ofNat 32 m.val) x * e x = e m := by
  rw [Finset.sum_eq_single m]
  · rw [hot_eq, if_pos rfl, one_mul]
  · intro x _ hx
    rw [hot_eq, if_neg hx, zero_mul]
  · exact fun h => absurd (Finset.mem_univ _) h

/-- The three one-hot sums over a real column, the column and twice what is left of it, take the entry at the node. -/
theorem sum_hot3 (m : Fin 2048) (e : Fin 2048 → EReal) (he : ∀ x, IsReal (e x)) :
    (∑ x : Fin 2048, hot (BitVec.ofNat 32 m.val) x * e x + (∑ x : Fin 2048, hot (BitVec.ofNat 32 m.val) x * (e x - e x)
      + ∑ x : Fin 2048, hot (BitVec.ofNat 32 m.val) x * (e x - e x - (e x - e x)))) = e m := by
  rw [sum_hot m e, sum_hot m (fun x => e x - e x), sum_hot m (fun x => e x - e x - (e x - e x)), (he m).sub_self]
  simp

end Cert.KernelIdeal.Hand

end
-- ==== Proof.Val.KBlk.lean ====
module

public import proofs.«01_k».proof.Proof.KI.Inv
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

/-- Which block of the first window a point reads. -/
theorem index0 : ∀ t : Fin cfg0.N, win0_0.index t 0 = t.val / 4 ∧ win0_0.index t 1 = t.val % 4 ∧ win0_0.index t 2 = 0 := by decide +kernel
/-- Which block of the second window a point reads. -/
theorem index1 : ∀ t : Fin cfg0.N, win0_1.index t 0 = t.val / 4 ∧ win0_1.index t 1 = 0 ∧ win0_1.index t 2 = 0 := by decide +kernel
/-- Which block of the third window a point reads. -/
theorem index2 : ∀ t : Fin cfg0.N, win0_2.index t 0 = 0 ∧ win0_2.index t 1 = 0 := by decide +kernel
/-- Which block of the fourth window a point reads. -/
theorem index3 : ∀ t : Fin cfg0.N, win0_3.index t 0 = 0 ∧ win0_3.index t 1 = 0 := by decide +kernel
/-- Which block of the fifth window a point reads. -/
theorem index4 : ∀ t : Fin cfg0.N, win0_4.index t 0 = 0 ∧ win0_4.index t 1 = 0 := by decide +kernel
/-- Which block of the sixth window a point reads. -/
theorem index5 : ∀ t : Fin cfg0.N, win0_5.index t 0 = 0 ∧ win0_5.index t 1 = 0 := by decide +kernel
/-- Which block of the seventh window a point reads. -/
theorem index6 : ∀ t : Fin cfg0.N, win0_6.index t 0 = 0 ∧ win0_6.index t 1 = 0 := by decide +kernel
/-- Which block of the eighth window a point reads. -/
theorem index7 : ∀ t : Fin cfg0.N, win0_7.index t 0 = 0 ∧ win0_7.index t 1 = 0 := by decide +kernel
/-- Which block of the ninth window a point reads. -/
theorem index8 : ∀ t : Fin cfg0.N, win0_8.index t 0 = 0 ∧ win0_8.index t 1 = 0 := by decide +kernel
/-- Which block of the tenth window a point reads. -/
theorem index9 : ∀ t : Fin cfg0.N, win0_9.index t 0 = 0 ∧ win0_9.index t 1 = 0 := by decide +kernel
/-- Which block of the eleventh window a point reads. -/
theorem index10 : ∀ t : Fin cfg0.N, win0_10.index t 0 = 0 ∧ win0_10.index t 1 = 0 := by decide +kernel

/-- An index of a two-axis array whose coordinates are an index's own, the block starting at the origin. -/
theorem idx_ext2 {a b : ℕ} (i j : (⟨2, ![a, b]⟩ : Shape).Idx) (h0 : (i 0).val = (j 0).val) (h1 : (i 1).val = (j 1).val) : i = j := by
  funext k
  match k with
  | ⟨0, _⟩ => exact Fin.ext h0
  | ⟨1, _⟩ => exact Fin.ext h1

/-- Two indices of rank three with the same coordinates are equal. -/
theorem idx_ext3 {a b c : ℕ} (i j : (⟨3, ![a, b, c]⟩ : Shape).Idx) (h0 : (i 0).val = (j 0).val) (h1 : (i 1).val = (j 1).val)
    (h2 : (i 2).val = (j 2).val) : i = j := by
  funext k
  match k with
  | ⟨0, _⟩ => exact Fin.ext h0
  | ⟨1, _⟩ => exact Fin.ext h1
  | ⟨2, _⟩ => exact Fin.ext h2

/-- Tile `t % 4` of graph `t / 4`. -/
theorem iblk0_apply (t : Fin cfg0.N) (r : Fin 512) (k : Fin 2048) (b : Fin 8) (n : Fin 2048) (hb : b.val = t.val / 4) (hn : n.val = 512 * (t.val % 4) + r.val) :
    (iblk m c 0 t : Vec F S1x512x2048 .f32) (ix3 0 r k) = (V m c main_arg0 : Vec F S8x2048x2048 .f32) (ix3 b n k) := by
  have h := index0 t
  refine congrArg (V m c main_arg0 : Vec F S8x2048x2048 .f32) (idx_ext3 _ _ ?_ ?_ ?_)
  · show win0_0.index t 0 * 1 + 1 * 0 = b.val; omega
  · show win0_0.index t 1 * 512 + 1 * r.val = n.val; omega
  · show win0_0.index t 2 * 2048 + 1 * k.val = k.val; omega

/-- The features of graph `t / 4`. -/
theorem iblk1_apply (t : Fin cfg0.N) (k : Fin 2048) (l : Fin 256) (b : Fin 8) (hb : b.val = t.val / 4) :
    (iblk m c 1 t : Vec F S1x2048x256 .f32) (ix3 0 k l) = (V m c main_arg1 : Vec F S8x2048x256 .f32) (ix3 b k l) := by
  have h := index1 t
  refine congrArg (V m c main_arg1 : Vec F S8x2048x256 .f32) (idx_ext3 _ _ ?_ ?_ ?_)
  · show win0_1.index t 0 * 1 + 1 * 0 = b.val; omega
  · show win0_1.index t 1 * 2048 + 1 * k.val = k.val; omega
  · show win0_1.index t 2 * 256 + 1 * l.val = l.val; omega

/-- The third window's block is its whole array. -/
theorem iblk2_eq (t : Fin cfg0.N) : (iblk m c 2 t : Vec F S8x256 .f32) = (V m c main_arg2 : Vec F S8x256 .f32) := by
  have h := index2 t
  funext j
  refine congrArg (V m c main_arg2 : Vec F S8x256 .f32) (idx_ext2 _ _ ?_ ?_)
  · show win0_2.index t 0 * 8 + 1 * (j 0).val = (j 0).val; omega
  · show win0_2.index t 1 * 256 + 1 * (j 1).val = (j 1).val; omega

/-- The fourth window's block is its whole array. -/
theorem iblk3_eq (t : Fin cfg0.N) : (iblk m c 3 t : Vec F S8x256 .f32) = (V m c main_v8 : Vec F S8x256 .f32) := by
  have h := index3 t
  funext j
  refine congrArg (V m c main_v8 : Vec F S8x256 .f32) (idx_ext2 _ _ ?_ ?_)
  · show win0_3.index t 0 * 8 + 1 * (j 0).val = (j 0).val; omega
  · show win0_3.index t 1 * 256 + 1 * (j 1).val = (j 1).val; omega

/-- The fifth window's block is its whole array. -/
theorem iblk4_eq (t : Fin cfg0.N) : (iblk m c 4 t : Vec F S256x256 .f32) = (V m c main_arg3 : Vec F S256x256 .f32) := by
  have h := index4 t
  funext j
  refine congrArg (V m c main_arg3 : Vec F S256x256 .f32) (idx_ext2 _ _ ?_ ?_)
  · show win0_4.index t 0 * 256 + 1 * (j 0).val = (j 0).val; omega
  · show win0_4.index t 1 * 256 + 1 * (j 1).val = (j 1).val; omega

/-- The sixth window's block is its whole array. -/
theorem iblk5_eq (t : Fin cfg0.N) : (iblk m c 5 t : Vec F S1x3 .f32) = (V m c main_arg4 : Vec F S1x3 .f32) := by
  have h := index5 t
  funext j
  refine congrArg (V m c main_arg4 : Vec F S1x3 .f32) (idx_ext2 _ _ ?_ ?_)
  · show win0_5.index t 0 * 1 + 1 * (j 0).val = (j 0).val; omega
  · show win0_5.index t 1 * 3 + 1 * (j 1).val = (j 1).val; omega

/-- The seventh window's block is its whole array. -/
theorem iblk6_eq (t : Fin cfg0.N) : (iblk m c 6 t : Vec F S256x256 .f32) = (V m c main_v2 : Vec F S256x256 .f32) := by
  have h := index6 t
  funext j
  refine congrArg (V m c main_v2 : Vec F S256x256 .f32) (idx_ext2 _ _ ?_ ?_)
  · show win0_6.index t 0 * 256 + 1 * (j 0).val = (j 0).val; omega
  · show win0_6.index t 1 * 256 + 1 * (j 1).val = (j 1).val; omega

/-- The eighth window's block is its whole array. -/
theorem iblk7_eq (t : Fin cfg0.N) : (iblk m c 7 t : Vec F S256x256 .f32) = (V m c main_v5 : Vec F S256x256 .f32) := by
  have h := index7 t
  funext j
  refine congrArg (V m c main_v5 : Vec F S256x256 .f32) (idx_ext2 _ _ ?_ ?_)
  · show win0_7.index t 0 * 256 + 1 * (j 0).val = (j 0).val; omega
  · show win0_7.index t 1 * 256 + 1 * (j 1).val = (j 1).val; omega

/-- The ninth window's block is its whole array. -/
theorem iblk8_eq (t : Fin cfg0.N) : (iblk m c 8 t : Vec F S1x256 .f32) = (V m c main_v6 : Vec F S1x256 .f32) := by
  have h := index8 t
  funext j
  refine congrArg (V m c main_v6 : Vec F S1x256 .f32) (idx_ext2 _ _ ?_ ?_)
  · show win0_8.index t 0 * 1 + 1 * (j 0).val = (j 0).val; omega
  · show win0_8.index t 1 * 256 + 1 * (j 1).val = (j 1).val; omega

/-- The tenth window's block is its whole array. -/
theorem iblk9_eq (t : Fin cfg0.N) : (iblk m c 9 t : Vec F S256x1 .f32) = (V m c main_v7 : Vec F S256x1 .f32) := by
  have h := index9 t
  funext j
  refine congrArg (V m c main_v7 : Vec F S256x1 .f32) (idx_ext2 _ _ ?_ ?_)
  · show win0_9.index t 0 * 256 + 1 * (j 0).val = (j 0).val; omega
  · show win0_9.index t 1 * 1 + 1 * (j 1).val = (j 1).val; omega

/-- The eleventh window's block is its whole array. -/
theorem iblk10_eq (t : Fin cfg0.N) : (iblk m c 10 t : Vec F S256x256 .f32) = (V m c main_arg8 : Vec F S256x256 .f32) := by
  have h := index10 t
  funext j
  refine congrArg (V m c main_arg8 : Vec F S256x256 .f32) (idx_ext2 _ _ ?_ ?_)
  · show win0_10.index t 0 * 256 + 1 * (j 0).val = (j 0).val; omega
  · show win0_10.index t 1 * 256 + 1 * (j 1).val = (j 1).val; omega

/-- The convolution weights of tap 0, transposed. -/
theorem V_v2 : (V m c main_v2 : Vec F S256x256 .f32) = transpose S256x256 [1, 0] (shapeCast S256x256 (extractStridedSlice S256x256x1 ![0, 0, 0] (m ((c.tc : Thread nD τ).loc main_arg5) : Vec F S256x256x2 .f32) slices_S256x256x2_S256x256x1_0_0_0) shapeCasts_S256x256x1_S256x256) transposes_S256x256_S256x256_1_0 := by
  simp only [V, V0, hostOps0, List.flatten_cons, List.flatten_nil, List.append_nil]
  after_results_simp
  rfl
/-- The convolution weights of tap 1, transposed. -/
theorem V_v5 : (V m c main_v5 : Vec F S256x256 .f32) = transpose S256x256 [1, 0] (shapeCast S256x256 (extractStridedSlice S256x256x1 ![0, 0, 1] (m ((c.tc : Thread nD τ).loc main_arg5) : Vec F S256x256x2 .f32) slices_S256x256x2_S256x256x1_0_0_1) shapeCasts_S256x256x1_S256x256) transposes_S256x256_S256x256_1_0 := by
  simp only [V, V0, hostOps0, List.flatten_cons, List.flatten_nil, List.append_nil]
  after_results_simp
  rfl
/-- The convolution bias as a row. -/
theorem V_v6 : (V m c main_v6 : Vec F S1x256 .f32) = shapeCast S1x256 (m ((c.tc : Thread nD τ).loc main_arg6) : Vec F S256 .f32) shapeCasts_S256_S1x256 := by
  simp only [V, V0, hostOps0, List.flatten_cons, List.flatten_nil, List.append_nil]
  after_results_simp
  rfl
/-- The score weights as a column. -/
theorem V_v7 : (V m c main_v7 : Vec F S256x1 .f32) = shapeCast S256x1 (m ((c.tc : Thread nD τ).loc main_arg7) : Vec F S256 .f32) shapeCasts_S256_S256x1 := by
  simp only [V, V0, hostOps0, List.flatten_cons, List.flatten_nil, List.append_nil]
  after_results_simp
  rfl
/-- The originals in the opposite order. -/
theorem V_v8 : (V m c main_v8 : Vec F S8x256 .f32) = Host.reverse [0] (m ((c.tc : Thread nD τ).loc main_arg2) : Vec F S8x256 .f32) := by
  simp only [V, V0, hostOps0, List.flatten_cons, List.flatten_nil, List.append_nil]
  after_results_simp

/-- The first tap's weights, entry by entry. -/
theorem V_v2_apply (k f : Fin 256) : (V m c main_v2 : Vec F S256x256 .f32) (ix2 k f) = (m ((c.tc : Thread nD τ).loc main_arg5) : Vec F S256x256x2 .f32) (ix3 f k 0) := by
  rw [V_v2]; pointwise []
/-- The second tap's weights, entry by entry. -/
theorem V_v5_apply (k f : Fin 256) : (V m c main_v5 : Vec F S256x256 .f32) (ix2 k f) = (m ((c.tc : Thread nD τ).loc main_arg5) : Vec F S256x256x2 .f32) (ix3 f k 1) := by
  rw [V_v5]; pointwise []
/-- The convolution's bias, entry by entry. -/
theorem V_v6_apply (f : Fin 256) : (V m c main_v6 : Vec F S1x256 .f32) (ix2 0 f) = (m ((c.tc : Thread nD τ).loc main_arg6) : Vec F S256 .f32) (ix1 f) := by
  rw [V_v6]; pointwise []
/-- The scoring weights, entry by entry. -/
theorem V_v7_apply (f : Fin 256) : (V m c main_v7 : Vec F S256x1 .f32) (ix2 f 0) = (m ((c.tc : Thread nD τ).loc main_arg7) : Vec F S256 .f32) (ix1 f) := by
  rw [V_v7]; pointwise []
/-- The reversed originals, entry by entry. -/
theorem V_v8_apply (j : Fin 8) (f : Fin 256) : (V m c main_v8 : Vec F S8x256 .f32) (ix2 j f) = (m ((c.tc : Thread nD τ).loc main_arg2) : Vec F S8x256 .f32) (ix2 (Fin.rev j) f) := by
  rw [V_v8]; pointwise []
  simp

end Cert.KernelIdeal.Hand

end
-- ==== Proof.Val.RPay.lean ====
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-- The arguments the reference reads. -/
abbrev G : Vec Ideal S8x2048x2048 .f32 := V0 (Proc.devRef .tc main_arg0)
/-- The features. -/
abbrev X : Vec Ideal S8x2048x256 .f32 := V0 (Proc.devRef .tc main_arg1)
/-- The originals. -/
abbrev O : Vec Ideal S8x256 .f32 := V0 (Proc.devRef .tc main_arg2)
/-- The propagation weights. -/
abbrev W : Vec Ideal S256x256 .f32 := V0 (Proc.devRef .tc main_arg3)
/-- The mixing logits. -/
abbrev A : Vec Ideal S1x3 .f32 := V0 (Proc.devRef .tc main_arg4)
/-- The convolution's weights. -/
abbrev CW : Vec Ideal S256x256x2 .f32 := V0 (Proc.devRef .tc main_arg5)
/-- The convolution's bias. -/
abbrev CB : Vec Ideal S256 .f32 := V0 (Proc.devRef .tc main_arg6)
/-- The scoring weights. -/
abbrev SW : Vec Ideal S256 .f32 := V0 (Proc.devRef .tc main_arg7)
/-- The discriminator's weights. -/
abbrev DW : Vec Ideal S256x256 .f32 := V0 (Proc.devRef .tc main_arg8)

/-- The reference's intermediate values as extended reals, named by what they are. -/
def R6 (k : Fin 3) : EReal := res_main_v6 V0 (ix2 0 k)
/-- The mixing weights. -/
def R10 (k : Fin 3) : EReal := res_main_v10 V0 (ix2 0 k)
/-- The propagated features. -/
def R16 (b : Fin 8) (n : Fin 2048) (f : Fin 256) : EReal := res_main_v16 V0 (ix3 b n f)
/-- The activations. -/
def R17 (b : Fin 8) (n : Fin 2048) (f : Fin 256) : EReal := res_main_v17 V0 (ix3 b n f)
/-- The activations less their mean, as the variance takes them. -/
def R5 (b : Fin 8) (n : Fin 2048) (f : Fin 256) : EReal := res_main_call1_v5 V0 (ix3 b n f)
/-- The number that the variance divides by. -/
def R8 : EReal := res_main_call1_v8 V0 ix0
/-- The normalised features. -/
def R30 (b : Fin 8) (n : Fin 2048) (f : Fin 256) : EReal := res_main_v30 V0 (ix3 b n f)
/-- The scores. -/
def R31 (b : Fin 8) (n : Fin 2048) : EReal := res_main_v31 V0 (ix2 b n)
/-- The node that a place takes. -/
def Idx (b : Fin 8) (p : Fin 64) : BitVec 32 := res_main_indices V0 (ix2 b p)
/-- The normalised features of the taken nodes. -/
def R38 (b : Fin 8) (p : Fin 64) (f : Fin 256) : EReal := res_main_v38 V0 (ix3 b p f)
/-- The graphs' embeddings. -/
def R109 (b : Fin 8) (f : Fin 256) : EReal := res_main_v109 V0 (ix2 b f)

/-- An exponential of a logit less the greatest, as printed. -/
theorem R6_raw (k : Fin 3) : R6 V0 k = Ideal.exp (A V0 (ix2 0 k) - max (Ideal.ofBits FTy.f32 4286578688#32)
    (Finset.fold max (Ideal.ofBits FTy.f32 4286578688#32) (V0 (Proc.devRef .tc main_arg4) : Vec Ideal S1x3 .f32) (Finset.univ.filter fun i => reducesTo_S1x3_S1_d1.drop i = ix1 0))) := by
  pointwise [R6, res_main_v6]

/-- The word of minus infinity. -/
theorem bits_bot : Ideal.ofBits FTy.f32 4286578688#32 = (⊥ : EReal) := by
  simp [Ideal.ofBits, Ideal.ieee]

/-- The greatest of the three mixing weights. -/
def amax : EReal := max (A V0 (ix2 0 0)) (max (A V0 (ix2 0 1)) (A V0 (ix2 0 2)))

/-- An exponential of a logit less the greatest. -/
theorem R6_eq (k : Fin 3) : R6 V0 k = Ideal.exp (A V0 (ix2 0 k) - amax V0) := by
  rw [R6_raw, bits_bot]
  have hf : (Finset.univ.filter fun i => reducesTo_S1x3_S1_d1.drop i = ix1 0) = (Finset.univ : Finset S1x3.Idx) := by
    apply Finset.filter_true_of_mem
    intro i _
    funext a
    match a with
    | ⟨0, _⟩ => exact Subsingleton.elim (α := Fin 1) _ _
  show Ideal.exp (A V0 (ix2 0 k) - max ⊥ (Finset.fold max ⊥ (A V0)
    (Finset.univ.filter fun i : S1x3.Idx => reducesTo_S1x3_S1_d1.drop i = ix1 0))) = _
  rw [hf, max_eq_right bot_le]
  congr 2
  unfold amax
  apply le_antisymm
  · rw [Finset.fold_max_le]
    refine ⟨bot_le, fun i _ => ?_⟩
    have hi : ∀ i : S1x3.Idx, ∃ v : Fin 3, i = ix2 0 v := by
      intro i
      refine ⟨i 1, ?_⟩
      funext a
      match a with
      | ⟨0, _⟩ => exact Subsingleton.elim (α := Fin 1) _ _
      | ⟨1, _⟩ => rfl
    obtain ⟨v, rfl⟩ := hi i
    fin_cases v
    · exact le_max_left _ _
    · exact (le_max_left _ _).trans (le_max_right _ _)
    · exact (le_max_right _ _).trans (le_max_right _ _)
  · refine max_le ?_ (max_le ?_ ?_)
    · exact (Finset.le_fold_max _).2 (Or.inr ⟨ix2 0 0, Finset.mem_univ _, le_rfl⟩)
    · exact (Finset.le_fold_max _).2 (Or.inr ⟨ix2 0 1, Finset.mem_univ _, le_rfl⟩)
    · exact (Finset.le_fold_max _).2 (Or.inr ⟨ix2 0 2, Finset.mem_univ _, le_rfl⟩)

/-- A mixing weight is an exponential over the sum of the three. -/
theorem R10_eq (k : Fin 3) : R10 V0 k = Ideal.div (R6 V0 k) (∑ l : Fin 3, R6 V0 l) := by
  pointwise [R10, R6, res_main_v10]

/-- The propagated features as sums. -/
theorem R16_eq (b : Fin 8) (n : Fin 2048) (f : Fin 256) :
    R16 V0 b n f = ∑ k : Fin 2048, Ideal.div (G V0 (ix3 b n k)) (∑ k' : Fin 2048, G V0 (ix3 b n k')) * ∑ l : Fin 256, X V0 (ix3 b k l) * W V0 (ix2 l f) := by
  pointwise [R16, res_main_v16]

/-- The activations as a rectifier of the propagated features. -/
theorem R17_eq (b : Fin 8) (n : Fin 2048) (f : Fin 256) :
    R17 V0 b n f = if 0 < R16 V0 b n f then R16 V0 b n f else Ideal.exp (if 0 < R16 V0 b n f then 0 else R16 V0 b n f) - 1 := by
  pointwise [R17, R16, res_main_v17, id]

/-- The activations less their mean. -/
theorem R5_eq (b : Fin 8) (n : Fin 2048) (f : Fin 256) :
    R5 V0 b n f = R17 V0 b n f - Ideal.div (∑ n : Fin 2048, ∑ f : Fin 256, R17 V0 b n f) (Ideal.ofBits .f32 0x49000000#32) := by
  pointwise [R5, R17, res_main_call1_v5]

/-- The word of the number of activations of a graph. -/
theorem bits_count : Ideal.ofBits FTy.f32 1224736768#32 = ((524288 : ℝ) : EReal) := by
  simp [Ideal.ofBits, Ideal.ieee, -EReal.coe_mul]; norm_num

/-- The variance's divisor, as printed. -/
theorem R8_raw : R8 V0 = Ideal.ofBits FTy.f32 1224736768#32 - FloatOps.sitofp (F := Ideal) FTy.f32 0#32 := by
  pointwise [R8, res_main_call1_v8]

/-- The variance's divisor is the number of activations. -/
theorem R8_eq : R8 V0 = ((524288 : ℝ) : EReal) := by
  rw [R8_raw, bits_count]
  show ((524288 : ℝ) : EReal) - (((0#32 : BitVec 32).toInt : ℝ) : EReal) = _
  simp

/-- The normalised features from the activations. -/
theorem R30_eq (b : Fin 8) (n : Fin 2048) (f : Fin 256) :
    R30 V0 b n f = Ideal.div (R17 V0 b n f - Ideal.div (∑ n : Fin 2048, ∑ f : Fin 256, R17 V0 b n f) (Ideal.ofBits .f32 0x49000000#32))
      (Ideal.sqrt ((if 0 < R8 V0 then Ideal.div (∑ n : Fin 2048, ∑ f : Fin 256, R5 V0 b n f * R5 V0 b n f) (R8 V0) else Ideal.ofBits .f32 0x7FC00000#32)
        + Ideal.ofBits .f32 0x3727C5AC#32)) := by
  pointwise [R30, R17, R8, R5, res_main_v30, id]

/-- A score is a sum over features. -/
theorem R31_eq (b : Fin 8) (n : Fin 2048) :
    R31 V0 b n = ∑ f : Fin 256, R30 V0 b n f * SW V0 (ix1 f) := by
  pointwise [R31, R30, res_main_v31]

/-- The first branch reads the taken nodes' features. -/
theorem v44_apply (b : Fin 8) (f : Fin 256) (p : Fin 64) : res_main_v44 V0 (ix3 b f p) = R38 V0 b p f := by
  pointwise [R38, res_main_v44]
/-- The second branch reads them rectified. -/
theorem v68_apply (b : Fin 8) (f : Fin 256) (p : Fin 64) : res_main_v68 V0 (ix3 b f p) = max (R38 V0 b p f) 0 := by
  pointwise [R38, res_main_v68]
/-- The third branch reads their hyperbolic tangents. -/
theorem v90_apply (b : Fin 8) (f : Fin 256) (p : Fin 64) : res_main_v90 V0 (ix3 b f p) = Ideal.tanh (R38 V0 b p f) := by
  pointwise [R38, res_main_v90]

/-- The convolution of width two over the taken nodes, rectified, and its maximum over the places. -/
def cnn (t : Fin 64 → Fin 256 → EReal) (f : Fin 256) : EReal :=
  Finset.fold max (Ideal.ofBits FTy.f32 0xFF800000#32)
    (fun x : Fin 63 => max (∑ k, CW V0 (ix3 f k 0) * t ⟨x.val, by omega⟩ k + ∑ k, CW V0 (ix3 f k 1) * t ⟨1 + x.val, by omega⟩ k + CB V0 (ix1 f)) 0) Finset.univ

/-- An embedding mixes the three pooled branches. -/
theorem R109_eq (b : Fin 8) (f : Fin 256) : R109 V0 b f = R10 V0 0 * cnn V0 (fun p k => R38 V0 b p k) f
    + R10 V0 1 * cnn V0 (fun p k => max (R38 V0 b p k) 0) f + R10 V0 2 * cnn V0 (fun p k => Ideal.tanh (R38 V0 b p k)) f := by
  pointwise [R109, R10, cnn, res_main_v109]
  simp only [v44_apply, v68_apply, v90_apply]

end Cert.ReferenceIdeal.Hand

end
-- ==== Proof.Val.RTop.lean ====
module

public import proofs.«01_k».proof.Proof.Val.RPay
public import proofs.«01_k».proof.Proof.Val.TopSeq
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V0 : Valuation τ sig (Elt Ideal))

attribute [local irreducible] sortedFrom

/-- Of two operands sorted together, the second at an index. -/
theorem sort2_snd {α β : Type} (s : Shape) (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2; rw [dif_pos hd]

/-- The count along an axis, read where that axis's place is `k`, is `k`. -/
theorem iota_along (s : Shape) (a : Fin s.rank) (j : s.Idx) (k : Fin (s.size a)) :
    iotaInDim s 32 a (j.along a k) = BitVec.ofNat 32 k.val := by
  simp [iotaInDim, Shape.Idx.along]

/-- A position along a row of scores. -/
theorem along_row (h : 1 < S8x2048.rank) (b : Fin 8) (p : Fin 2048) (k : Fin (S8x2048.size ⟨1, h⟩)) :
    Shape.Idx.along (s := S8x2048) (ix2 b p) ⟨1, h⟩ k = ix2 b (⟨k.val, k.isLt⟩ : Fin 2048) := by
  funext a
  match a with
  | ⟨0, _⟩ => rfl
  | ⟨1, _⟩ => rfl

/-- The positions the `p`-th place of a row's sorted order comes from. -/
theorem topK_idx (gt : EReal → EReal → BitVec 1) (x : S8x2048.Idx → EReal) (h : S8x2048.Slices (fun _ => 0) S8x64)
    (b : Fin 8) (p : Fin 64) :
    (Host.topK S8x64 1 gt x h).2 (ix2 b p)
      = BitVec.ofNat 32 (sortedFrom (fun k k' : Fin 2048 => gt (x (ix2 b k)) (x (ix2 b k')) == 1#1) (p.castLE (by norm_num))).val := by
  have hi : (fun i : S8x2048.Idx => if hd : 1 < S8x2048.rank then iotaInDim S8x2048 32 ⟨1, hd⟩ i else 0#32)
      = iotaInDim S8x2048 32 ⟨1, by decide⟩ := by
    funext i; exact dif_pos (by decide)
  have key : ∀ J : S8x2048.Idx, J = ix2 b (p.castLE (by norm_num)) →
      (Host.sort2 S8x2048 1 (fun l r => gt l.1 r.1) x (iotaInDim S8x2048 32 ⟨1, by decide⟩)).2 J
      = BitVec.ofNat 32 (sortedFrom (fun k k' : Fin 2048 => gt (x (ix2 b k)) (x (ix2 b k')) == 1#1) (p.castLE (by norm_num))).val := by
    rintro J rfl
    rw [sort2_snd S8x2048 1 (by decide), iota_along]
    simp only [along_row]
    exact rfl
  unfold Host.topK
  dsimp only
  rw [hi]
  unfold extractStridedSlice
  refine key _ ?_
  funext a
  match a with
  | ⟨0, _⟩ => exact Fin.ext (Nat.zero_add _)
  | ⟨1, _⟩ => exact Fin.ext (Nat.zero_add _)

/-- Every score of a graph lying above the least value, the reference's `p`-th index is the node that the
    repeated choice of the greatest takes at step `p`. -/
theorem Idx_eq (b : Fin 8) (hx : ∀ m, ⊥ < R31 V0 b m) (p : Fin 64) :
    Idx V0 b p = BitVec.ofNat 32 (Cert.TopSeq.sel (R31 V0 b) p.val).val := by
  rw [← Cert.TopSeq.sortedFrom_eq_sel (R31 V0 b) hx 64 (by norm_num) p]
  have hcmp : (fun k k' : Fin 2048 => (FloatOps.cmpfTotal (F := Ideal) (φ := .f32) .gt (R31 V0 b k) (R31 V0 b k') == 1#1))
      = fun k k' => decide (R31 V0 b k' < R31 V0 b k) := by
    funext k k'
    by_cases hlt : R31 V0 b k' < R31 V0 b k <;> simp [FloatOps.cmpfTotal, Ideal.cmpTotal, Ideal.cmp, CmpDirection.ordered, hlt]
  rw [← hcmp]
  exact topK_idx _ _ _ b p

/-- Taking rows by node number reads the node's row. -/
theorem gather_idx (i : IVec S8x64x1 32) (b : Fin 8) (p : Fin 64) (f : Fin 256) (m : Fin 2048)
    (h : i (ix3 b p 0) = BitVec.ofNat 32 m.val) :
    (gather_S8x2048x256_S8x64x1_S8x64x256_2_1_0_0_1_2_11256).operandIdx (ix3 b p f) i = ix3 b m f := by
  have h0 : (gather_S8x2048x256_S8x64x1_S8x64x256_2_1_0_0_1_2_11256).operandIdx (ix3 b p f) i (0 : Fin 3) = b := by
    apply Fin.ext
    simp only [GatherDims.operandIdx]
    rw [GatherDims.start_batching _ _ _ _ (by decide), GatherDims.offCoord_eq_zero _ _ _ (by decide)]
    show 0 + b.val + 0 = b.val
    omega
  have h1 : (gather_S8x2048x256_S8x64x1_S8x64x256_2_1_0_0_1_2_11256).operandIdx (ix3 b p f) i (1 : Fin 3) = m := by
    apply Fin.ext
    simp only [GatherDims.operandIdx]
    rw [GatherDims.batchCoord_eq_zero _ _ _ (by decide), GatherDims.offCoord_eq_zero _ _ _ (by decide)]
    have hs : (gather_S8x2048x256_S8x64x1_S8x64x256_2_1_0_0_1_2_11256).siIdx (ix3 b p f) ⟨0, by decide⟩ = ix3 b p 0 := by
      funext a
      match a with
      | ⟨0, _⟩ => rfl
      | ⟨1, _⟩ => rfl
      | ⟨2, _⟩ => rfl
    have : (gather_S8x2048x256_S8x64x1_S8x64x256_2_1_0_0_1_2_11256).start (ix3 b p f) i (1 : Fin 3) = min (i (ix3 b p 0)).toInt.toNat 2047 := by
      rw [← hs]; rfl
    have hm := m.isLt
    rw [this, h, BitVec.toInt_eq_toNat_of_lt (by rw [BitVec.toNat_ofNat]; omega), BitVec.toNat_ofNat, Int.toNat_natCast]
    omega
  have h2 : (gather_S8x2048x256_S8x64x1_S8x64x256_2_1_0_0_1_2_11256).operandIdx (ix3 b p f) i (2 : Fin 3) = f := by
    apply Fin.ext
    simp only [GatherDims.operandIdx]
    rw [GatherDims.batchCoord_eq_zero _ _ _ (by decide)]
    show 0 + 0 + f.val = f.val
    omega
  funext a
  match a with
  | ⟨0, _⟩ => exact h0
  | ⟨1, _⟩ => exact h1
  | ⟨2, _⟩ => exact h2

/-- Taking rows by graph number reads the graph's row. -/
theorem gather_row (i : IVec S8x1 32) (j : Fin 8) (f : Fin 256) (m : Fin 8)
    (h : i (ix2 j 0) = BitVec.ofNat 32 m.val) :
    (gather_S8x256_S8x1_S8x256_1_0_n_n_0_1_1256).operandIdx (ix2 j f) i = ix2 m f := by
  have h0 : (gather_S8x256_S8x1_S8x256_1_0_n_n_0_1_1256).operandIdx (ix2 j f) i (0 : Fin 2) = m := by
    apply Fin.ext
    simp only [GatherDims.operandIdx]
    rw [GatherDims.batchCoord_eq_zero _ _ _ (by decide), GatherDims.offCoord_eq_zero _ _ _ (by decide)]
    have hs : (gather_S8x256_S8x1_S8x256_1_0_n_n_0_1_1256).siIdx (ix2 j f) ⟨0, by decide⟩ = ix2 j 0 := by
      funext a
      match a with
      | ⟨0, _⟩ => rfl
      | ⟨1, _⟩ => rfl
    have : (gather_S8x256_S8x1_S8x256_1_0_n_n_0_1_1256).start (ix2 j f) i (0 : Fin 2) = min (i (ix2 j 0)).toInt.toNat 7 := by
      rw [← hs]; rfl
    have hm := m.isLt
    rw [this, h, BitVec.toInt_eq_toNat_of_lt (by rw [BitVec.toNat_ofNat]; omega), BitVec.toNat_ofNat, Int.toNat_natCast]
    omega
  have h1 : (gather_S8x256_S8x1_S8x256_1_0_n_n_0_1_1256).operandIdx (ix2 j f) i (1 : Fin 2) = f := by
    apply Fin.ext
    simp only [GatherDims.operandIdx]
    rw [GatherDims.batchCoord_eq_zero _ _ _ (by decide)]
    show 0 + 0 + f.val = f.val
    omega
  funext a
  match a with
  | ⟨0, _⟩ => exact h0
  | ⟨1, _⟩ => exact h1

/-- The rows the reference gathers are the taken nodes' rows. -/
theorem R38_eq (b : Fin 8) (p : Fin 64) (f : Fin 256) (m : Fin 2048) (h : Idx V0 b p = BitVec.ofNat 32 m.val) :
    R38 V0 b p f = R30 V0 b m f := by
  unfold R38 R30 res_main_v38 Host.gather
  rw [gather_idx _ b p f m ?_]
  have hm : IntOp.cmpi .slt (BitVec.ofNat 32 m.val) 0#32 = 0#1 := by
    have : (BitVec.ofNat 32 m.val).slt 0#32 = false := by
      rw [BitVec.slt_eq_decide, BitVec.toInt_eq_toNat_of_lt (by rw [BitVec.toNat_ofNat]; omega)]
      simp only [decide_eq_false_iff_not, not_lt]
      exact Int.natCast_nonneg _
    simp [IntOp.cmpi, this]
  have hr : res_main_indices V0 (ix2 b p) = BitVec.ofNat 32 m.val := h
  pointwise []
  simp [hr, hm, Scalar.select]

/-- The word at place `j` of the reversed count is `7 - j`, taken into range it is itself. -/
theorem rev_word (j : Fin 8) : res_main_v111 V0 (ix1 j) = BitVec.ofNat 32 (Fin.rev j).val := by
  pointwise [res_main_v111]
  simp

/-- The word that names the opposite graph. -/
theorem row_word (j : Fin 8) : (broadcastInDim S8x1 ![0] bcast_S8_S8x1_0 (select (cmpi .slt (res_main_v111 V0) (broadcastInDim S8 ![] bcast_S_S8 (constantI S_ 32 0#32))) (addi (res_main_v111 V0) (broadcastInDim S8 ![] bcast_S_S8 (constantI S_ 32 8#32))) (res_main_v111 V0))) (ix2 j 0)
    = BitVec.ofNat 32 (Fin.rev j).val := by
  have hm : IntOp.cmpi .slt (BitVec.ofNat 32 (Fin.rev j).val) 0#32 = 0#1 := by
    revert j; decide
  pointwise []
  rw [rev_word, hm]
  simp [Scalar.select]

end Cert.ReferenceIdeal.Hand

end
-- ==== Proof.Val.RRes.lean ====
module

public import proofs.«01_k».proof.Proof.Val.RTop
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-- The scores of the eight graphs against their own summaries. -/
def own : Vec Ideal S8 .f32 := Host.reduceAdd (F := Ideal) (mulf (O V0) (Host.dotGeneral (F := Ideal) (φ₁ := .f32) (φ₂ := .f32) dot_S8x256_S256x256_S8x256_1_0_0_1_n_n none (res_main_v109 V0) (DW V0))) (constant S_ .f32 0x00000000#32) reducesTo_S8x256_S8_d1 h_S_

/-- The summaries in the opposite order. -/
def back : Vec Ideal S8x256 .f32 := Host.gather gather_S8x256_S8x1_S8x256_1_0_n_n_0_1_1256 (res_main_v109 V0) (broadcastInDim S8x1 ![0] bcast_S8_S8x1_0 (select (cmpi .slt (res_main_v111 V0) (broadcastInDim S8 ![] bcast_S_S8 (constantI S_ 32 0#32))) (addi (res_main_v111 V0) (broadcastInDim S8 ![] bcast_S_S8 (constantI S_ 32 8#32))) (res_main_v111 V0)))

/-- The scores of the eight graphs against the summaries in the opposite order. -/
def other : Vec Ideal S8 .f32 := Host.reduceAdd (F := Ideal) (mulf (O V0) (Host.dotGeneral (F := Ideal) (φ₁ := .f32) (φ₂ := .f32) dot_S8x256_S256x256_S8x256_1_0_0_1_n_n none (back V0) (DW V0))) (constant S_ .f32 0x00000000#32) reducesTo_S8x256_S8_d1 h_S_

/-- The reversed summaries, entry by entry. -/
theorem back_apply (j : Fin 8) (f : Fin 256) : back V0 (ix2 j f) = R109 V0 (Fin.rev j) f := by
  unfold back Host.gather
  rw [gather_row _ j f (Fin.rev j) (row_word V0 j)]
  rfl

/-- A graph's score against its own summary. -/
theorem own_apply (j : Fin 8) : (own V0 (ix1 j) : EReal) = ∑ f : Fin 256, O V0 (ix2 j f) * ∑ k : Fin 256, R109 V0 j k * DW V0 (ix2 k f) := by
  pointwise [own, R109]

/-- A graph's score against the opposite summary. -/
theorem other_apply (j : Fin 8) : (other V0 (ix1 j) : EReal) = ∑ f : Fin 256, O V0 (ix2 j f) * ∑ k : Fin 256, R109 V0 (Fin.rev j) k * DW V0 (ix2 k f) := by
  simp only [← back_apply]
  pointwise [other]

end Cert.ReferenceIdeal.Hand

end
-- ==== Proof.Val.Act.lean ====
module

public import proofs.«01_k».proof.Proof.Val.Elu
public import proofs.«01_k».proof.Proof.Val.KBlk
public import proofs.«01_k».proof.Proof.Val.RRes
public import Idealize.ShloMosaic.Lib.Pointwise

@[expose] public section

set_option maxRecDepth 16384

noncomputable section

namespace Cert.Value

open Cert.KernelIdeal.Hand Cert.Reals
open Idealize.ShloMosaic Idealize.ShloMosaic.TcCoe

variable (m : (ℓ : Loc Cert.KernelIdeal.nD Cert.KernelIdeal.τ Cert.KernelIdeal.sig) → Buf (Elt Ideal) ℓ) (c : Dev Cert.KernelIdeal.nD) (V0 : Valuation Cert.ReferenceIdeal.τ Cert.ReferenceIdeal.sig (Elt Ideal))

/-- The two programs' arguments are the same arrays. -/
structure Same : Prop where
  g : (m ((c.tc : Thread Cert.KernelIdeal.nD Cert.KernelIdeal.τ).loc Cert.KernelIdeal.main_arg0) : Vec Ideal Cert.KernelIdeal.S8x2048x2048 .f32) = Cert.ReferenceIdeal.Hand.G V0
  x : (m ((c.tc : Thread Cert.KernelIdeal.nD Cert.KernelIdeal.τ).loc Cert.KernelIdeal.main_arg1) : Vec Ideal Cert.KernelIdeal.S8x2048x256 .f32) = Cert.ReferenceIdeal.Hand.X V0
  o : (m ((c.tc : Thread Cert.KernelIdeal.nD Cert.KernelIdeal.τ).loc Cert.KernelIdeal.main_arg2) : Vec Ideal Cert.KernelIdeal.S8x256 .f32) = Cert.ReferenceIdeal.Hand.O V0
  w : (m ((c.tc : Thread Cert.KernelIdeal.nD Cert.KernelIdeal.τ).loc Cert.KernelIdeal.main_arg3) : Vec Ideal Cert.KernelIdeal.S256x256 .f32) = Cert.ReferenceIdeal.Hand.W V0
  a : (m ((c.tc : Thread Cert.KernelIdeal.nD Cert.KernelIdeal.τ).loc Cert.KernelIdeal.main_arg4) : Vec Ideal Cert.KernelIdeal.S1x3 .f32) = Cert.ReferenceIdeal.Hand.A V0
  cw : (m ((c.tc : Thread Cert.KernelIdeal.nD Cert.KernelIdeal.τ).loc Cert.KernelIdeal.main_arg5) : Vec Ideal Cert.KernelIdeal.S256x256x2 .f32) = Cert.ReferenceIdeal.Hand.CW V0
  cb : (m ((c.tc : Thread Cert.KernelIdeal.nD Cert.KernelIdeal.τ).loc Cert.KernelIdeal.main_arg6) : Vec Ideal Cert.KernelIdeal.S256 .f32) = Cert.ReferenceIdeal.Hand.CB V0
  sw : (m ((c.tc : Thread Cert.KernelIdeal.nD Cert.KernelIdeal.τ).loc Cert.KernelIdeal.main_arg7) : Vec Ideal Cert.KernelIdeal.S256 .f32) = Cert.ReferenceIdeal.Hand.SW V0
  dw : (m ((c.tc : Thread Cert.KernelIdeal.nD Cert.KernelIdeal.τ).loc Cert.KernelIdeal.main_arg8) : Vec Ideal Cert.KernelIdeal.S256x256 .f32) = Cert.ReferenceIdeal.Hand.DW V0

/-- What the precondition gives: the named arguments hold real numbers and no row of the adjacency sums to zero. -/
structure Good : Prop where
  g : ∀ b n k, IsReal (Cert.ReferenceIdeal.Hand.G V0 (ix3 b n k))
  deg : ∀ (b : Fin 8) (n : Fin 2048), ∑ k : Fin 2048, Cert.ReferenceIdeal.Hand.G V0 (ix3 b n k) ≠ 0
  x : ∀ b k l, IsReal (Cert.ReferenceIdeal.Hand.X V0 (ix3 b k l))
  w : ∀ l f, IsReal (Cert.ReferenceIdeal.Hand.W V0 (ix2 l f))
  a : ∀ k, IsReal (Cert.ReferenceIdeal.Hand.A V0 (ix2 0 k))
  sw : ∀ f, IsReal (Cert.ReferenceIdeal.Hand.SW V0 (ix1 f))

variable {m c V0}

open Cert.ReferenceIdeal.Hand

/-- The propagated features are real numbers. -/
theorem R16_real (hg : Good V0) (b : Fin 8) (n : Fin 2048) (f : Fin 256) : IsReal (R16 V0 b n f) := by
  rw [R16_eq]
  exact IsReal.sum _ fun k => ((hg.g b n k).div (IsReal.sum _ fun k' => hg.g b n k') (hg.deg b n)).mul
    (IsReal.sum _ fun l => (hg.x b k l).mul (hg.w l f))

/-- The reference's activations are real numbers. -/
theorem R17_real (hg : Good V0) (b : Fin 8) (n : Fin 2048) (f : Fin 256) : IsReal (R17 V0 b n f) := by
  rw [R17_eq]; exact elu_isReal (R16_real hg b n f)

/-- The kernel's activations are the reference's. -/
theorem act_eq (hs : Same m c V0) (hg : Good V0) (b : Fin 8) (n : Fin 2048) (f : Fin 256) : actAll m c (ix3 b n f) = R17 V0 b n f := by
  rw [R17_eq, ← kelu_real (R16_real hg b n f), R16_eq]
  show Cert.KernelIdeal.Gen.k0_pay75 (Cert.KernelIdeal.Gen.iblk m c 0 (pt (4 * b.val + n.val / 512) (by omega))) (xwAt m c (pt (4 * b.val) (by omega))) (ix3 0 (⟨n.val % 512, Nat.mod_lt _ (by norm_num)⟩ : Fin 512) f) = _
  rw [pay75_apply]
  have hG : ∀ k : Fin 2048, (Cert.KernelIdeal.Gen.iblk m c 0 (pt (4 * b.val + n.val / 512) (by omega)) : Vec Ideal Cert.KernelIdeal.S1x512x2048 .f32) (ix3 0 (⟨n.val % 512, Nat.mod_lt _ (by norm_num)⟩ : Fin 512) k) = G V0 (ix3 b n k) := by
    intro k
    refine (iblk0_apply m c _ _ k b n ?_ ?_).trans ?_
    · show b.val = (4 * b.val + n.val / 512) / 4; omega
    · show n.val = 512 * ((4 * b.val + n.val / 512) % 4) + n.val % 512; omega
    · exact (congrFun (Cert.KernelIdeal.Gen.V_main_arg0 m c) _).trans (congrFun hs.g _)
  have hX : ∀ k l, (Cert.KernelIdeal.Gen.iblk m c 1 (pt (4 * b.val) (by omega)) : Vec Ideal Cert.KernelIdeal.S1x2048x256 .f32) (ix3 0 k l) = X V0 (ix3 b k l) := by
    intro k l
    refine (iblk1_apply m c _ k l b ?_).trans ?_
    · show b.val = (4 * b.val) / 4; omega
    · exact (congrFun (Cert.KernelIdeal.Gen.V_main_arg1 m c) _).trans (congrFun hs.x _)
  have hW : (Cert.KernelIdeal.Gen.iblk m c 4 (pt (4 * b.val) (by omega)) : Vec Ideal Cert.KernelIdeal.S256x256 .f32) = W V0 :=
    (iblk4_eq m c _).trans ((Cert.KernelIdeal.Gen.V_main_arg3 m c).trans hs.w)
  have hxw : ∀ k, xwAt m c (pt (4 * b.val) (by omega)) (ix2 k f) = ∑ l : Fin 256, X V0 (ix3 b k l) * W V0 (ix2 l f) := by
    intro k
    unfold xwAt
    rw [pay74_apply, hW]
    exact Finset.sum_congr rfl fun l _ => by rw [hX]
  refine congrArg kelu (Finset.sum_congr rfl fun k _ => ?_)
  rw [hG, hxw]
  exact congrArg (fun d => Ideal.div _ d * _) (Finset.sum_congr rfl fun k' _ => hG k')

/-- A graph's slab of activations holds the reference's. -/
theorem actOf_eq (hs : Same m c V0) (hg : Good V0) (b : Fin 8) (n : Fin 2048) (f : Fin 256) : actOf m c b (ix3 0 n f) = R17 V0 b n f :=
  act_eq hs hg b n f

/-- A graph's mean over all its activations. -/
def mu (V0 : Valuation Cert.ReferenceIdeal.τ Cert.ReferenceIdeal.sig (Elt Ideal)) (b : Fin 8) : EReal := Ideal.div (∑ n : Fin 2048, ∑ f : Fin 256, R17 V0 b n f) (Ideal.ofBits .f32 0x49000000#32)
/-- A graph's deviation over all its activations. -/
def sg (V0 : Valuation Cert.ReferenceIdeal.τ Cert.ReferenceIdeal.sig (Elt Ideal)) (b : Fin 8) : EReal := Ideal.sqrt (Ideal.div (∑ n : Fin 2048, ∑ f : Fin 256, (R17 V0 b n f - mu V0 b) * (R17 V0 b n f - mu V0 b)) (Ideal.ofBits .f32 0x49000000#32) + Ideal.ofBits .f32 0x3727C5AC#32)

/-- The mean is a real number. -/
theorem mu_real (hg : Good V0) (b : Fin 8) : IsReal (mu V0 b) := by
  unfold mu
  refine (IsReal.sum _ fun n => IsReal.sum _ fun f => R17_real hg b n f).div ?_ ?_
  · rw [Cert.Reals.bits_count]; exact isReal_coe _
  · rw [Cert.Reals.bits_count]; exact_mod_cast (by norm_num : (524288 : ℝ) ≠ 0)

/-- The deviation is a positive real number. -/
theorem sg_pos (hg : Good V0) (b : Fin 8) : ∃ s : ℝ, 0 < s ∧ sg V0 b = (s : EReal) :=
  dev_pos (sum_sq Finset.univ Finset.univ fun n f => (R17_real hg b n f).sub (mu_real hg b))

/-- The kernel's mean is the reference's. -/
theorem pay77_eq (hs : Same m c V0) (hg : Good V0) (b : Fin 8) : Cert.KernelIdeal.Gen.k0_pay77 (actOf m c b) = mu V0 b := by
  rw [pay77_apply]; unfold mu; simp only [actOf_eq hs hg]

/-- The kernel's deviation is the reference's. -/
theorem pay78_eq (hs : Same m c V0) (hg : Good V0) (b : Fin 8) : Cert.KernelIdeal.Gen.k0_pay78 (actOf m c b) = sg V0 b := by
  rw [pay78_apply, pay77_eq hs hg]; unfold sg; simp only [actOf_eq hs hg]

/-- The reference's normalised features. -/
theorem R30_norm (b : Fin 8) (n : Fin 2048) (f : Fin 256) : R30 V0 b n f = Ideal.div (R17 V0 b n f - mu V0 b) (sg V0 b) := by
  rw [R30_eq, R8_eq, if_pos (by exact_mod_cast (by norm_num : (0 : ℝ) < 524288))]
  unfold sg
  simp only [R5_eq, Cert.Reals.bits_count]
  unfold mu
  simp only [Cert.Reals.bits_count]

/-- The normalised features are real numbers. -/
theorem R30_real (hg : Good V0) (b : Fin 8) (n : Fin 2048) (f : Fin 256) : IsReal (R30 V0 b n f) := by
  obtain ⟨s, hs, e⟩ := sg_pos hg b
  rw [R30_norm, e]
  exact ((R17_real hg b n f).sub (mu_real hg b)).div (isReal_coe s) (by exact_mod_cast hs.ne')

/-- The scores are real numbers. -/
theorem R31_real (hg : Good V0) (b : Fin 8) (n : Fin 2048) : IsReal (R31 V0 b n) := by
  rw [R31_eq]; exact IsReal.sum _ fun f => (R30_real hg b n f).mul (hg.sw f)

/-- The kernel's scores are the reference's. -/
theorem score_eq (hs : Same m c V0) (hg : Good V0) (b : Fin 8) : line (scoreAll m c) b = R31 V0 b := by
  funext n
  obtain ⟨r, d, rfl⟩ := exists_flat n
  rw [line_flat, R31_eq]
  show Cert.KernelIdeal.Gen.k0_pay81 (actOf m c b) (Cert.KernelIdeal.Gen.iblk m c 9 (pt (4 * b.val + 3) (by omega))) (ix3 0 r d) = _
  rw [pay81_apply, pay77_eq hs hg, pay78_eq hs hg]
  refine Finset.sum_congr rfl fun f _ => ?_
  rw [R30_norm, actOf_eq hs hg]
  congr 1
  refine (congrFun (iblk9_eq m c _) _).trans ((V_v7_apply m c f).trans (congrFun hs.sw _))

end Cert.Value

end
-- ==== Proof.Val.Embed.lean ====
module

public import proofs.«01_k».proof.Proof.Val.Act
public import Idealize.ShloMosaic.Lib.Pointwise

@[expose] public section

set_option maxRecDepth 16384

noncomputable section

namespace Cert.Value

open Cert.KernelIdeal.Hand Cert.Reals
open Idealize.ShloMosaic Idealize.ShloMosaic.TcCoe

variable {m : (ℓ : Loc Cert.KernelIdeal.nD Cert.KernelIdeal.τ Cert.KernelIdeal.sig) → Buf (Elt Ideal) ℓ} {c : Dev Cert.KernelIdeal.nD} {V0 : Valuation Cert.ReferenceIdeal.τ Cert.ReferenceIdeal.sig (Elt Ideal)}

open Cert.ReferenceIdeal.Hand (G X O W A CW CB SW DW R6 R10 R16 R17 R30 R31 R38 R109 Idx amax R6_eq R10_eq R109_eq R38_eq Idx_eq own other own_apply other_apply)

/-- Graph `g`'s slab of an array. -/
theorem slab_apply (e : Vec Ideal Cert.KernelIdeal.S8x2048x256 .f32) (g : Fin 8) (x : Fin 2048) (f : Fin 256) :
    (VecWindow.window e ![g.val, 0, 0] Cert.KernelIdeal.S1x2048x256.size (slab_inb g) : Vec Ideal Cert.KernelIdeal.S1x2048x256 .f32) (ix3 0 x f) = e (ix3 g x f) := by
  refine congrArg e ?_
  funext a
  apply Fin.ext
  match a with
  | ⟨0, _⟩ => show g.val + 0 = g.val; omega
  | ⟨1, _⟩ => show 0 + 1 * x.val = x.val; omega
  | ⟨2, _⟩ => show 0 + 1 * f.val = f.val; omega

/-- The first cell of graph `g`'s row. -/
theorem cell_apply (e : Vec Ideal Cert.KernelIdeal.S8x128 .f32) (g : Fin 8) :
    (VecWindow.window e ![g.val, 0] Cert.KernelIdeal.S1x1.size (cell_inb g) : Vec Ideal Cert.KernelIdeal.S1x1 .f32) (ix2 0 0) = e (ix2 g 0) := by
  refine congrArg e ?_
  funext a
  apply Fin.ext
  match a with
  | ⟨0, _⟩ => show g.val + 0 = g.val; omega
  | ⟨1, _⟩ => rfl

/-- A mixing logit. -/
theorem logit_apply (x : Vec Ideal Cert.KernelIdeal.S1x3 .f32) (k : Fin 3) : logit x k (ix2 0 0) = x (ix2 0 k) := by
  refine congrArg x ?_
  funext a
  apply Fin.ext
  match a with
  | ⟨0, _⟩ => rfl
  | ⟨1, _⟩ => show k.val + 0 = k.val; omega

/-- The mean kept for a graph is the reference's. -/
theorem mean_eq (hs : Same m c V0) (hg : Good V0) (g : Fin 8) : meanAll m c (ix2 g 0) = mu V0 g := by
  show Cert.KernelIdeal.Gen.k0_pay79 (actOf m c g) (ix2 0 0) = _
  rw [pay79_apply, pay77_eq hs hg]

/-- The deviation kept for a graph is the reference's. -/
theorem dev_eq (hs : Same m c V0) (hg : Good V0) (g : Fin 8) : devAll m c (ix2 g 0) = sg V0 g := by
  show Cert.KernelIdeal.Gen.k0_pay80 (actOf m c g) (ix2 0 0) = _
  rw [pay80_apply, pay78_eq hs hg]

/-- The node that each place takes is the reference's. -/
theorem taken_eq (hs : Same m c V0) (hg : Good V0) (g : Fin 8) (p : Fin 64) :
    pickCol g.val (pick_slices g) (picks (scoreAll m c)).2 (ix2 p 0) = BitVec.ofNat 32 (Cert.TopSeq.sel (R31 V0 g) p.val).val := by
  rw [pickCol_apply, picks_apply _ g _ p.isLt, score_eq hs hg]

/-- A taken node's normalised features, where the place holds the node's number. -/
theorem feat_gen (col : IVec Cert.KernelIdeal.S64x1 32) (e : Vec Ideal Cert.KernelIdeal.S1x2048x256 .f32) (ms ss : Vec Ideal Cert.KernelIdeal.S1x1 .f32)
    (p : Fin 64) (f : Fin 256) (n : Fin 2048) (r : Fin 2048 → EReal) (hr : ∀ x, IsReal (r x)) (he : ∀ x, e (ix3 0 x f) = r x)
    (hc : col (ix2 p 0) = BitVec.ofNat 32 n.val) :
    Cert.KernelIdeal.Gen.k0_pay19 nodes col e ms ss (ix2 p f) = Ideal.div (r n - ms (ix2 0 0)) (ss (ix2 0 0)) := by
  rw [pay19_apply, hc]
  simp only [he]
  rw [sum_hot3 _ r hr]

/-- The kernel's normalised features of the taken nodes are the reference's. -/
theorem feat_eq (hs : Same m c V0) (hg : Good V0) (g : Fin 8) (p : Fin 64) (f : Fin 256) :
    Cert.KernelIdeal.Gen.k0_pay19 nodes (pickCol g.val (pick_slices g) (picks (scoreAll m c)).2)
      (VecWindow.window (actAll m c) ![g.val, 0, 0] Cert.KernelIdeal.S1x2048x256.size (slab_inb g))
      (VecWindow.window (meanAll m c) ![g.val, 0] Cert.KernelIdeal.S1x1.size (cell_inb g))
      (VecWindow.window (devAll m c) ![g.val, 0] Cert.KernelIdeal.S1x1.size (cell_inb g)) (ix2 p f) = R38 V0 g p f := by
  refine (feat_gen _ _ _ _ p f _ (fun x => R17 V0 g x f) (fun x => R17_real hg g x f) (fun x => (slab_apply _ g x f).trans (act_eq hs hg g x f))
    (taken_eq hs hg g p)).trans ?_
  rw [R38_eq V0 g p f _ (Idx_eq V0 g (fun n => (R31_real hg g n).bot_lt) p), R30_norm, cell_apply, cell_apply, mean_eq hs hg, dev_eq hs hg]

/-- The two programs' convolutions are one. -/
theorem conv_eq (t : Fin 64 → Fin 256 → EReal) (f : Fin 256) :
    Cert.KernelIdeal.Hand.cnn t (fun k f => CW V0 (ix3 f k 0)) (fun k f => CW V0 (ix3 f k 1)) (fun f => CB V0 (ix1 f)) f = Cert.ReferenceIdeal.Hand.cnn V0 t f := by
  unfold Cert.KernelIdeal.Hand.cnn Cert.ReferenceIdeal.Hand.cnn
  refine congrArg (fun h => Finset.fold max _ h Finset.univ) (funext fun x => ?_)
  exact congrArg₂ (fun a b => max (a + b + CB V0 (ix1 f)) 0) (Finset.sum_congr rfl fun k _ => mul_comm _ _) (Finset.sum_congr rfl fun k _ => mul_comm _ _)

/-- A rectified maximum is not negative. -/
theorem conv_nonneg (t : Fin 64 → Fin 256 → EReal) (f : Fin 256) : 0 ≤ Cert.ReferenceIdeal.Hand.cnn V0 t f := by
  unfold Cert.ReferenceIdeal.Hand.cnn
  exact (Finset.le_fold_max _).2 (Or.inr ⟨0, Finset.mem_univ _, le_max_right _ _⟩)

/-- The mixing exponentials are positive real numbers. -/
theorem R6_pos (hg : Good V0) (k : Fin 3) : ∃ e : ℝ, 0 < e ∧ R6 V0 k = (e : EReal) := by
  have hm : IsReal (amax V0) := by
    unfold amax
    rcases max_choice (A V0 (ix2 0 1)) (A V0 (ix2 0 2)) with h | h <;> rw [h]
    · rcases max_choice (A V0 (ix2 0 0)) (A V0 (ix2 0 1)) with h | h <;> rw [h] <;> exact hg.a _
    · rcases max_choice (A V0 (ix2 0 0)) (A V0 (ix2 0 2)) with h | h <;> rw [h] <;> exact hg.a _
  obtain ⟨r, hr⟩ := (hg.a k).sub hm
  exact ⟨Real.exp r, Real.exp_pos r, by rw [R6_eq, hr, Ideal.exp_coe]⟩

/-- The kernel's embedding of a graph is the reference's. -/
theorem row_eq (hs : Same m c V0) (hg : Good V0) (x5 : Vec Ideal Cert.KernelIdeal.S1x3 .f32) (x6 x7 : Vec Ideal Cert.KernelIdeal.S256x256 .f32) (x8 : Vec Ideal Cert.KernelIdeal.S1x256 .f32)
    (h5 : ∀ k, x5 (ix2 0 k) = A V0 (ix2 0 k)) (h6 : ∀ k f, x6 (ix2 k f) = CW V0 (ix3 f k 0)) (h7 : ∀ k f, x7 (ix2 k f) = CW V0 (ix3 f k 1)) (h8 : ∀ f, x8 (ix2 0 f) = CB V0 (ix1 f))
    (g : Fin 8) (f : Fin 256) :
    rowOf (actAll m c) (scoreAll m c) (meanAll m c) (devAll m c) x5 x6 x7 x8 g (ix2 0 f) = R109 V0 g f := by
  unfold rowOf
  rw [graphRow_apply, pay14_eq, pay11_eq, pay12_eq, pay13_eq]
  simp only [feat_eq hs hg, pay15_apply, pay16_apply, pay17_apply, h6, h7, h8, conv_eq]
  rw [logit_apply x5 0, logit_apply x5 1, logit_apply x5 2, h5, h5, h5]
  obtain ⟨e0, p0, q0⟩ := R6_pos hg 0
  obtain ⟨e1, p1, q1⟩ := R6_pos hg 1
  obtain ⟨e2, p2, q2⟩ := R6_pos hg 2
  rw [R109_eq, R10_eq, R10_eq, R10_eq, Fin.sum_univ_three, q0, q1, q2]
  rw [R6_eq] at q0 q1 q2
  unfold amax at q0 q1 q2
  rw [q0, q1, q2, mix p0 p1 p2 (conv_nonneg _ _) (conv_nonneg _ _) (conv_nonneg _ _), add_assoc (e0 : EReal)]

end Cert.Value

end
-- ==== Proof.Val.KOut.lean ====
module

public import proofs.«01_k».proof.Proof.KI.Body
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-- The output array's block is the whole array. -/
theorem index_out : ∀ t : Fin cfg0.N, win0_11.index t 0 = 0 ∧ win0_11.index t 1 = 0
    ∧ win0_11.xsize (grid0.coords t) 0 = 2 ∧ win0_11.xsize (grid0.coords t) 1 = 8 := by decide +kernel

/-- The one block that is written back is the kernel's two rows. -/
theorem flushed_out (c : Dev nD) (t : Fin cfg0.N) (ht : (cfg0.win 11).flush t = true) :
    (dats m 0 c).flushed 11 t = (win0_11.blk t).view.read (Elt F) (outBlk m c) := by
  show (cfg0.win 11).cut (grid0.coords t) ((dats m 0 c).after 11 t) = _
  rw [after_11]
  funext j
  refine congrArg (outBlk m c) ?_
  have hi := index_out t
  funext a
  apply Fin.ext
  match a with
  | ⟨0, _⟩ =>
    show (j 0).val = win0_11.index t 0 * 2 + 1 * (j 0).val
    rw [hi.1]; omega
  | ⟨1, _⟩ =>
    show (j 1).val = win0_11.index t 1 * 8 + 1 * (j 1).val
    rw [hi.2.1]; omega

/-- The last point writes the output block back. -/
theorem flush_last : (cfg0.win 11).flush (pt 31 (by norm_num)) = true := by decide +kernel

/-- Every index of the output array is in the block. -/
theorem mem_out (t : Fin cfg0.N) (i : S2x8.Idx) : i ∈ ((cfg0.win 11).blk t).view.set := by
  show i ∈ ((View.whole main_v9).slice (win0_11.rect t)).set
  rw [View.set_slice_whole, Rect.mem_set_unit]
  have h0 : (i 0 : ℕ) < 2 := (i 0).isLt
  have h1 : (i 1 : ℕ) < 8 := (i 1).isLt
  have e := index_out t
  intro a
  match a with
  | ⟨0, _⟩ =>
    show win0_11.index t 0 * 2 ≤ (i 0 : ℕ) ∧ (i 0 : ℕ) < win0_11.index t 0 * 2 + win0_11.xsize (grid0.coords t) 0
    rw [e.1, e.2.2.1]; omega
  | ⟨1, _⟩ =>
    show win0_11.index t 1 * 8 ≤ (i 1 : ℕ) ∧ (i 1 : ℕ) < win0_11.index t 1 * 8 + win0_11.xsize (grid0.coords t) 1
    rw [e.2.1, e.2.2.2]; omega

/-- The last point's block is the whole output array. -/
theorem cover_out (i : S2x8.Idx) : ∃ t : Fin cfg0.N, (cfg0.win 11).flush t = true ∧ i ∈ ((cfg0.win 11).blk t).view.set :=
  ⟨pt 31 (by norm_num), flush_last, mem_out _ i⟩

/-- So the output array ends holding the two rows. -/
theorem final_out (c : Dev nD) : (dats m 0 c).arrAt 11 cfg0.N = outBlk m c :=
  (dats m 0 c).arrAt_eq_of_cover 11 (outBlk m c) (fun t ht => flushed_out m c t ht) cover_out

/-- The kernel's result: the first row, then the second row in the opposite order. -/
def result (c : Dev nD) : Vec F S16 .f32 :=
  concatenate S16 0 [⟨S8, shapeCast S8 (extractStridedSlice S1x8 ![0, 0] (outBlk m c) slices_S2x8_S1x8_0_0) shapeCasts_S1x8_S8⟩,
    ⟨S8, Host.reverse [0] (shapeCast S8 (extractStridedSlice S1x8 ![1, 0] (outBlk m c) slices_S2x8_S1x8_1_0) shapeCasts_S1x8_S8)⟩] concatenates_S8_S8_S16_d0

/-- After the host's last operations the result holds the two rows joined. -/
theorem tail_result (c : Dev nD) :
    Pipeline.afterTail₀ cfgs (dats m) 0 (V0 m) [hostOps1] c main_v15 = result m c := by
  unfold Pipeline.afterTail₀
  have h9 : Pipeline.withArrays (cfgs 0).spec c (V0 m c) (fun w => (dats m 0 c).arrAt w (cfgs 0).N) (Proc.devRef .tc main_v9) = outBlk m c :=
    (Pipeline.withArrays_arr (cfgs 0).spec launch0.win.arr_inj c (V0 m c) (fun w => (dats m 0 c).arrAt w (cfgs 0).N) 11).trans (final_out m c)
  simp only [List.flatten_cons, List.flatten_nil, List.append_nil]
  generalize Pipeline.withArrays (cfgs 0).spec c (V0 m c) (fun w => (dats m 0 c).arrAt w (cfgs 0).N) = Z at h9 ⊢
  simp only [hostOps1, TRef.binary, TRef.nullary, TRef.unary, TRef.toBuf, TRef.ofBuf, cast_eq]
  after_results_simp
  refine congrArg₂ (fun (a b : Vec F S8 .f32) => concatenate S16 0 [⟨S8, a⟩, ⟨S8, b⟩] concatenates_S8_S8_S16_d0) ?_ ?_
  · after_results_simp
    rw [h9]; rfl
  · after_results_simp
    rw [h9]; rfl

/-- The run, read at the result. -/
theorem run_result : θ_run defs (onTc (τ := τ) (main (F := F))) ⟨m, fun _ => 0, ρ⟩ fun r => ∀ c : Dev nD,
      r.2.mem ((c.tc : Thread nD τ).loc main_v15) = result m c :=
  (θ_run defs _ _).mono (fun _ h c => ((h c).2 main_v15 (Pipeline.mem_restRefs_of main_v15 (by decide) (by decide))).trans (tail_result m c)) (run_main m ρ)

end Cert.KernelIdeal.Hand

end
-- ==== Proof.Val.Result.lean ====
module

public import proofs.«01_k».proof.Proof.Val.Embed
public import proofs.«01_k».proof.Proof.Val.KOut
public import Idealize.ShloMosaic.Lib.Pointwise

@[expose] public section

set_option maxRecDepth 16384

noncomputable section

namespace Cert.Value

open Cert.KernelIdeal.Hand Cert.Reals
open Idealize.ShloMosaic Idealize.ShloMosaic.TcCoe

variable {m : (ℓ : Loc Cert.KernelIdeal.nD Cert.KernelIdeal.τ Cert.KernelIdeal.sig) → Buf (Elt Ideal) ℓ} {c : Dev Cert.KernelIdeal.nD} {V0 : Valuation Cert.ReferenceIdeal.τ Cert.ReferenceIdeal.sig (Elt Ideal)}

open Cert.ReferenceIdeal.Hand (G X O W A CW CB SW DW R109 own other own_apply other_apply)

/-- The embeddings times the discriminator's weights, as the last point has them. -/
theorem prod_eq (hs : Same m c V0) (hg : Good V0) (j : Fin 8) (f : Fin 256) :
    prodAll (actAll m c) (scoreAll m c) (meanAll m c) (devAll m c) (Cert.KernelIdeal.Gen.iblk m c 5 (pt 31 (by norm_num))) (Cert.KernelIdeal.Gen.iblk m c 6 (pt 31 (by norm_num)))
      (Cert.KernelIdeal.Gen.iblk m c 7 (pt 31 (by norm_num))) (Cert.KernelIdeal.Gen.iblk m c 8 (pt 31 (by norm_num))) (Cert.KernelIdeal.Gen.iblk m c 10 (pt 31 (by norm_num))) (ix2 j f)
      = ∑ k : Fin 256, R109 V0 j k * DW V0 (ix2 k f) := by
  unfold prodAll
  refine (prodRows_apply (fun g => rowOf (actAll m c) (scoreAll m c) (meanAll m c) (devAll m c) (Cert.KernelIdeal.Gen.iblk m c 5 (pt 31 (by norm_num))) (Cert.KernelIdeal.Gen.iblk m c 6 (pt 31 (by norm_num)))
      (Cert.KernelIdeal.Gen.iblk m c 7 (pt 31 (by norm_num))) (Cert.KernelIdeal.Gen.iblk m c 8 (pt 31 (by norm_num))) g) _ j f).trans ?_
  refine Finset.sum_congr rfl fun k _ => congrArg₂ (fun a b : EReal => a * b) (row_eq hs hg _ _ _ _ ?_ ?_ ?_ ?_ j k) ?_
  · intro k
    exact (congrFun (iblk5_eq m c _) _).trans ((congrFun (Cert.KernelIdeal.Gen.V_main_arg4 m c) _).trans (congrFun hs.a _))
  · intro k f
    exact (congrFun (iblk6_eq m c _) _).trans ((V_v2_apply m c k f).trans (congrFun hs.cw _))
  · intro k f
    exact (congrFun (iblk7_eq m c _) _).trans ((V_v5_apply m c k f).trans (congrFun hs.cw _))
  · intro f
    exact (congrFun (iblk8_eq m c _) _).trans ((V_v6_apply m c f).trans (congrFun hs.cb _))
  · exact (congrFun (iblk10_eq m c _) _).trans ((congrFun (Cert.KernelIdeal.Gen.V_main_arg8 m c) _).trans (congrFun hs.dw _))

/-- The kernel's first row: every original against its own graph's embedding. -/
theorem top_eq (hs : Same m c V0) (hg : Good V0) (j : Fin 8) : (outBlk m c (ix2 0 j) : EReal) = own V0 (ix1 j) := by
  have h1 : (outBlk m c (ix2 0 j) : EReal) = (outRows m c).1 (ix2 0 j) := if_pos rfl
  rw [h1, own_apply, outRows, lastRows_eq]
  refine (pay1_apply _ _ j).trans (Finset.sum_congr rfl fun f _ => ?_)
  rw [prod_eq hs hg]
  exact congrArg (fun a : EReal => a * _) ((congrFun (iblk2_eq m c _) _).trans ((congrFun (Cert.KernelIdeal.Gen.V_main_arg2 m c) _).trans (congrFun hs.o _)))

/-- The kernel's second row, read in the opposite order: every original against the opposite graph's embedding. -/
theorem bottom_eq (hs : Same m c V0) (hg : Good V0) (j : Fin 8) : (outBlk m c (ix2 1 (Fin.rev j)) : EReal) = other V0 (ix1 j) := by
  have h1 : (outBlk m c (ix2 1 (Fin.rev j)) : EReal) = (outRows m c).2 (ix2 0 (Fin.rev j)) := if_neg one_ne_zero
  rw [h1, other_apply, outRows, lastRows_eq]
  refine (pay1_apply _ _ (Fin.rev j)).trans (Finset.sum_congr rfl fun f _ => ?_)
  rw [prod_eq hs hg, pay73_apply]
  refine congrArg (fun a : EReal => a * _) ((congrFun (iblk3_eq m c _) _).trans ((V_v8_apply m c (Fin.rev j) f).trans ?_))
  rw [Fin.rev_rev]
  exact congrFun hs.o _

/-- The kernel's result is the reference's. -/
theorem result_eq (hs : Same m c V0) (hg : Good V0) :
    result m c = concatenate Cert.KernelIdeal.S16 0 [⟨Cert.KernelIdeal.S8, (own V0 : Vec Ideal Cert.KernelIdeal.S8 .f32)⟩, ⟨Cert.KernelIdeal.S8, (other V0 : Vec Ideal Cert.KernelIdeal.S8 .f32)⟩] Cert.KernelIdeal.Gen.concatenates_S8_S8_S16_d0 := by
  unfold result
  refine congrArg₂ (fun (a b : Vec Ideal Cert.KernelIdeal.S8 .f32) => concatenate Cert.KernelIdeal.S16 0 [⟨Cert.KernelIdeal.S8, a⟩, ⟨Cert.KernelIdeal.S8, b⟩] Cert.KernelIdeal.Gen.concatenates_S8_S8_S16_d0) ?_ ?_
  · funext i
    idx_vars i
    rw [← top_eq hs hg]
    pointwise []
  · funext i
    idx_vars i
    rw [← bottom_eq hs hg]
    pointwise []
    simp
    done

end Cert.Value

end
-- ==== Proof.Algebraic.lean ====
module

public import proofs.«01_k».proof.Proof.Frames
public import proofs.«01_k».proof.Proof.Val.Pre
public import proofs.«01_k».proof.Proof.Val.Result

@[expose] public section

noncomputable section

namespace Cert.Proof

open Idealize.ShloMosaic Idealize.ShloMosaic.StableHlo Idealize.SL.Sem

/-- The predicate's side conditions. -/
theorem facts_pre : Cert.Pre_inputs_finite.Facts := Cert.Pre_inputs_finite.Hand.facts

attribute [local instance] facts_pre

/-- The idealized kernel's frame, the precondition unused. -/
theorem frame_ideal_pre : Cert.quiescent_KernelIdeal_pre_inputs_finite := fun m ρ _ => Cert.KernelIdeal.Hand.frame_main m ρ

/-- The reference's frame, the precondition unused. -/
theorem frame_reference_pre : Cert.quiescent_ReferenceIdeal_pre_inputs_finite := fun m ρ _ => frame_reference m ρ trivial

/-- Under the precondition the idealized kernel and the idealized reference end with equal results. -/
theorem algebraic : Cert.algebraic_KernelIdeal_ReferenceIdeal_pre_inputs_finite := by
  intro m ρ m' ρ' hpre hagree
  refine ⟨fun c => Cert.KernelIdeal.Hand.result m c, ?_, ?_⟩
  · exact (θ_run Cert.KernelIdeal.defs _ _).mono (fun _ h c => ⟨h.1 c, h.2.1 c⟩)
      (θ_run_and (Cert.KernelIdeal.Hand.run_result m ρ) (Cert.KernelIdeal.Hand.frame_main m ρ))
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    obtain ⟨p0, p1, p2, p3, p4, p5⟩ := hpre c
    have hs : Cert.Value.Same m c (launchContents m' c) := ⟨a0.symm, a1.symm, a2.symm, a3.symm, a4.symm, a5.symm, a6.symm, a7.symm, a8.symm⟩
    have hg : Cert.Value.Good (launchContents m' c) :=
      ⟨fun b n k => hs.g ▸ Cert.Pre_inputs_finite.Hand.g_real p0 b n k, fun b n => hs.g ▸ Cert.Pre_inputs_finite.Hand.deg_ne p1 b n,
        fun b k l => hs.x ▸ Cert.Pre_inputs_finite.Hand.x_real p2 b k l, fun l f => hs.w ▸ Cert.Pre_inputs_finite.Hand.w_real p3 l f,
        fun k => hs.a ▸ Cert.Pre_inputs_finite.Hand.a_real p4 k, fun f => hs.sw ▸ Cert.Pre_inputs_finite.Hand.sw_real p5 f⟩
    exact (Cert.Value.result_eq hs hg).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

/-- Every claim of this certificate: the frames, that the idealized kernel is the kernel's own text, and that under the precondition the idealized kernel and the idealized reference end with equal results. -/
theorem claim : Cert.Claim := ⟨Cert.Kernel.Gen.facts, Cert.KernelIdeal.Gen.facts, Cert.ReferenceIdeal.Gen.facts, facts_pre,
  frame_kernel, frame_ideal, frame_ideal_pre, frame_reference, frame_reference_pre, trivial, algebraic⟩

end Cert.Proof

end
